-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2304x7168 : Shape := ⟨3, ![2, 2304, 7168]⟩
abbrev S7168 : Shape := ⟨1, ![7168]⟩
abbrev S7168x1536 : Shape := ⟨2, ![7168, 1536]⟩
abbrev S1536 : Shape := ⟨1, ![1536]⟩
abbrev S4608x7168 : Shape := ⟨2, ![4608, 7168]⟩
abbrev S1x7168 : Shape := ⟨2, ![1, 7168]⟩
abbrev S1x1536 : Shape := ⟨2, ![1, 1536]⟩
abbrev S4608x1536 : Shape := ⟨2, ![4608, 1536]⟩
abbrev S4608x1 : Shape := ⟨2, ![4608, 1]⟩
abbrev S384x7168 : Shape := ⟨2, ![384, 7168]⟩
abbrev S384x1536 : Shape := ⟨2, ![384, 1536]⟩
abbrev S384x1 : Shape := ⟨2, ![384, 1]⟩
abbrev S32x7168 : Shape := ⟨2, ![32, 7168]⟩
abbrev S32 : Shape := ⟨1, ![32]⟩
abbrev S32x1 : Shape := ⟨2, ![32, 1]⟩
abbrev S384x512 : Shape := ⟨2, ![384, 512]⟩
abbrev S384x1024 : Shape := ⟨2, ![384, 1024]⟩
abbrev S1024x512 : Shape := ⟨2, ![1024, 512]⟩
abbrev S1x512 : Shape := ⟨2, ![1, 512]⟩

abbrev nBuf : Space → Nat
  | .hbm => 10
  | .vmem => 13
  | .smem => 0
  | _ => 0

abbrev bufTy : (tb : Table) → Fin (tcTables nBuf tb) → BufTy
  | .hbm, ⟨0, _⟩ => ⟨S2x2304x7168, .bf16⟩
  | .hbm, ⟨1, _⟩ => ⟨S7168, .f32⟩
  | .hbm, ⟨2, _⟩ => ⟨S7168x1536, .i8⟩
  | .hbm, ⟨3, _⟩ => ⟨S1536, .f32⟩
  | .hbm, ⟨4, _⟩ => ⟨S4608x7168, .bf16⟩
  | .hbm, ⟨5, _⟩ => ⟨S1x7168, .f32⟩
  | .hbm, ⟨6, _⟩ => ⟨S1x1536, .f32⟩
  | .hbm, ⟨7, _⟩ => ⟨S4608x1536, .bf16⟩
  | .hbm, ⟨8, _⟩ => ⟨S4608x7168, .i8⟩
  | .hbm, ⟨9, _⟩ => ⟨S4608x1, .f32⟩
  | .local _ .vmem, ⟨0, _⟩ => ⟨S384x7168, .bf16⟩
  | .local _ .vmem, ⟨1, _⟩ => ⟨S384x7168, .bf16⟩
  | .local _ .vmem, ⟨2, _⟩ => ⟨S1x7168, .f32⟩
  | .local _ .vmem, ⟨3, _⟩ => ⟨S7168x1536, .i8⟩
  | .local _ .vmem, ⟨4, _⟩ => ⟨S1x1536, .f32⟩
  | .local _ .vmem, ⟨5, _⟩ => ⟨S384x1536, .bf16⟩
  | .local _ .vmem, ⟨6, _⟩ => ⟨S384x1536, .bf16⟩
  | .local _ .vmem, ⟨7, _⟩ => ⟨S384x7168, .i8⟩
  | .local _ .vmem, ⟨8, _⟩ => ⟨S384x7168, .i8⟩
  | .local _ .vmem, ⟨9, _⟩ => ⟨S384x1, .f32⟩
  | .local _ .vmem, ⟨10, _⟩ => ⟨S384x1, .f32⟩
  | .local _ .vmem, ⟨11, _⟩ => ⟨S384x7168, .bf16⟩
  | .local _ .vmem, ⟨12, _⟩ => ⟨S384x1, .f32⟩
  | _, _ => ⟨S2x2304x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c12_i32 : BitVec 32 := 12#32
  let v0 : BitVec 32 := Scalar.addi c0_i32 c12_i32
  let c1_i32 : BitVec 32 := 1#32
  ⟨c0_i32, v0, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v162 : BitVec 32 := Scalar.muli arg10 c32_i32
  let v163 : Index := Scalar.indexCast v162
  let c0_122 : Index := 0#32
  ![v163.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v162 : BitVec 32 := Scalar.muli arg10 c32_i32
  let v195 : Index := Scalar.indexCast v162
  let c0_133 : Index := 0#32
  ![v195.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7168x1536 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x7168 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x2304x7168 : Shape := ⟨3, ![2, 2304, 7168]⟩
abbrev S7168 : Shape := ⟨1, ![7168]⟩
abbrev S7168x1536 : Shape := ⟨2, ![7168, 1536]⟩
abbrev S1536 : Shape := ⟨1, ![1536]⟩
abbrev S4608x7168 : Shape := ⟨2, ![4608, 7168]⟩
abbrev S1x7168 : Shape := ⟨2, ![1, 7168]⟩
abbrev S1x1536 : Shape := ⟨2, ![1, 1536]⟩
abbrev S4608x1536 : Shape := ⟨2, ![4608, 1536]⟩
abbrev S4608x1 : Shape := ⟨2, ![4608, 1]⟩
abbrev S4608 : Shape := ⟨1, ![4608]⟩
abbrev S4608x512 : Shape := ⟨2, ![4608, 512]⟩
abbrev S512x1536 : Shape := ⟨2, ![512, 1536]⟩

abbrev nBuf : Space → Nat
  | .hbm => 10
  | .vmem => 7
  | .smem => 0
  | _ => 0

abbrev bufTy : (tb : Table) → Fin (tcTables nBuf tb) → BufTy
  | .hbm, ⟨0, _⟩ => ⟨S2x2304x7168, .bf16⟩
  | .hbm, ⟨1, _⟩ => ⟨S7168, .f32⟩
  | .hbm, ⟨2, _⟩ => ⟨S7168x1536, .i8⟩
  | .hbm, ⟨3, _⟩ => ⟨S1536, .f32⟩
  | .hbm, ⟨4, _⟩ => ⟨S4608x7168, .bf16⟩
  | .hbm, ⟨5, _⟩ => ⟨S1x7168, .f32⟩
  | .hbm, ⟨6, _⟩ => ⟨S1x1536, .f32⟩
  | .hbm, ⟨7, _⟩ => ⟨S4608x1536, .bf16⟩
  | .hbm, ⟨8, _⟩ => ⟨S4608x7168, .i8⟩
  | .hbm, ⟨9, _⟩ => ⟨S4608x1, .f32⟩
  | .local _ .vmem, ⟨0, _⟩ => ⟨S4608x7168, .bf16⟩
  | .local _ .vmem, ⟨1, _⟩ => ⟨S1x7168, .f32⟩
  | .local _ .vmem, ⟨2, _⟩ => ⟨S7168x1536, .i8⟩
  | .local _ .vmem, ⟨3, _⟩ => ⟨S1x1536, .f32⟩
  | .local _ .vmem, ⟨4, _⟩ => ⟨S4608x1536, .bf16⟩
  | .local _ .vmem, ⟨5, _⟩ => ⟨S4608x7168, .i8⟩
  | .local _ .vmem, ⟨6, _⟩ => ⟨S4608x1, .f32⟩
  | _, _ => ⟨S2x2304x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4608x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x1536 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x7168 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4608x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Codes.lean ====
/-
  Hand-written, untrusted. ONE ROW, QUANTISED AND MULTIPLIED, over the extended reals, with no program in it.

  A row `x` of 7168 activations is smoothed by `s`, divided by its own scale, rounded to even and clipped to [-127, 127]
  (`rowCode`); the int8 word the kernel stores is `rowWord`. Two facts carry the whole proof:

  * `rowCode_eq`: the clipped value is always a whole number, and it is the one the int8 word stands for, so a program that
    multiplies the clipped float and one that multiplies the int8 word read back multiply the same number;
  * `chunk_word`: a contraction of at most 1024 such codes with int8 weights is a whole number below 2^31, so its
    conversion to int32 is exact, and int32 sums of chunks are the int32 word of the whole sum however the 7168 terms are cut.
-/
module

public import Idealize.ShloMosaic.Lib.Tactic
public import Idealize.ShloMosaic.Lib.Pipeline.ValueKit
public import Idealize.ShloMosaic.Lib.IdealHost

@[expose] public section

noncomputable section

namespace Cert.Codes

open Idealize.ShloMosaic

/-! ## The row's scale, codes and words -/

/-- The greatest magnitude of the smoothed row (a fold of `max` from −∞). -/
def rowMax (x s : Fin 7168 → EReal) : EReal :=
  Finset.fold max (Ideal.ofBits FTy.f32 0xFF800000#32)
    (fun k => FloatOps.absf (F := Ideal) (φ := .f32) (x k * s k)) Finset.univ

/-- The row's scale: the greatest magnitude over 127, or 1 for a row of zeros. -/
def rowScale (x s : Fin 7168 → EReal) : EReal :=
  if 0 < rowMax x s then Ideal.div (rowMax x s) (Ideal.ofBits FTy.f32 0x42FE0000#32) else 1

/-- Element `k` of the row divided by the scale, rounded to even, clipped to [-127, 127]: still a float. -/
def rowCode (x s : Fin 7168 → EReal) (k : Fin 7168) : EReal :=
  min (Ideal.ofBits FTy.f32 0x42FE0000#32) (max (Ideal.ofBits FTy.f32 0xC2FE0000#32)
    (Ideal.liftRound Ideal.roundHalfEven (Ideal.div (x k * s k) (rowScale x s))))

/-- The int8 word of that code. -/
def rowWord (x s : Fin 7168 → EReal) (k : Fin 7168) : BitVec 8 := Ideal.fptosi 8 (rowCode x s k)

theorem ofBits_127 : Ideal.ofBits FTy.f32 0x42FE0000#32 = ((127 : ℝ) : EReal) := by
  simp [Ideal.ofBits, Ideal.ieee, -EReal.coe_mul]; norm_num

theorem ofBits_neg_127 : Ideal.ofBits FTy.f32 0xC2FE0000#32 = ((-127 : ℝ) : EReal) := by
  simp [Ideal.ofBits, Ideal.ieee, -EReal.coe_mul, -EReal.coe_neg]; norm_num

/-- Whatever is rounded and clipped, the outcome is a whole number in [-127, 127]. -/
theorem clip_int (z : EReal) :
    ∃ n : ℤ, -127 ≤ n ∧ n ≤ 127 ∧
      min (Ideal.ofBits FTy.f32 0x42FE0000#32) (max (Ideal.ofBits FTy.f32 0xC2FE0000#32)
        (Ideal.liftRound Ideal.roundHalfEven z)) = (((n : ℤ) : ℝ) : EReal) := by
  rw [ofBits_127, ofBits_neg_127]
  induction z using EReal.rec with
  | bot => exact ⟨-127, by norm_num, by norm_num, by rw [Ideal.liftRound_bot, max_eq_left bot_le, min_eq_right (by exact_mod_cast (by norm_num : (-127 : ℝ) ≤ 127))]; norm_num⟩
  | top => exact ⟨127, by norm_num, by norm_num, by rw [Ideal.liftRound_top, max_eq_right le_top, min_eq_left le_top]; norm_num⟩
  | coe r =>
    refine ⟨min 127 (max (-127) (Ideal.roundHalfEven r)), by omega, by omega, ?_⟩
    rw [Ideal.liftRound_coe]
    push_cast
    rfl

/-- A whole number that fits a signed word of `w` bits is converted exactly. -/
theorem fptosi_int (w : ℕ) (n : ℤ) (h1 : -(2 ^ (w - 1) : ℕ) ≤ n) (h2 : n ≤ ((2 ^ (w - 1) : ℕ) : ℤ) - 1) :
    Ideal.fptosi w (((n : ℤ) : ℝ) : EReal) = BitVec.ofInt w n := by
  unfold Ideal.fptosi
  rw [Ideal.toIntClamped_coe, Int.floor_intCast, Int.ceil_intCast, ite_self]
  congr 1
  rw [min_eq_right h2, max_eq_right h1]

/-- The clipped float is the value of its own int8 word. -/
theorem rowCode_eq (x s : Fin 7168 → EReal) (k : Fin 7168) :
    rowCode x s k = (((rowWord x s k).toInt : ℝ) : EReal) := by
  obtain ⟨n, h1, h2, h⟩ := clip_int (Ideal.div (x k * s k) (rowScale x s))
  have hc : rowCode x s k = (((n : ℤ) : ℝ) : EReal) := h
  have hw : (rowWord x s k).toInt = n := by
    unfold rowWord
    rw [hc, fptosi_int 8 n (by norm_num; omega) (by norm_num; omega), BitVec.toInt_ofInt]
    exact Int.bmod_eq_of_le (by norm_num; omega) (by norm_num; omega)
  rw [hc, hw]

/-! ## A chunk of the contraction -/

theorem toInt_bound (b : BitVec 8) : -128 ≤ b.toInt ∧ b.toInt ≤ 127 := by
  have := BitVec.toInt_lt (x := b); have := BitVec.le_toInt (x := b)
  norm_num at *; omega

theorem word_mul_bound (a b : BitVec 8) : -16384 ≤ a.toInt * b.toInt ∧ a.toInt * b.toInt ≤ 16384 := by
  obtain ⟨a1, a2⟩ := toInt_bound a
  obtain ⟨b1, b2⟩ := toInt_bound b
  constructor <;> nlinarith

/-- A finite sum of reals, summed as extended reals. -/
theorem coe_sum {ι : Type} (S : Finset ι) (f : ι → ℝ) : ((∑ i ∈ S, f i : ℝ) : EReal) = ∑ i ∈ S, (f i : EReal) := by
  induction S using Finset.cons_induction with
  | empty => simp
  | cons a S ha ih => rw [Finset.sum_cons, Finset.sum_cons, EReal.coe_add, ih]

/-- A sum of at most 1024 products of int8 codes and int8 weights, taken over the reals and converted to int32, is the
    int32 word of the integer sum. -/
theorem chunk_word {K : ℕ} (hK : K ≤ 1024) (a b : Fin K → BitVec 8) :
    Ideal.fptosi 32 (∑ k, (((a k).toInt : ℝ) : EReal) * (((b k).toInt : ℝ) : EReal))
      = BitVec.ofInt 32 (∑ k, (a k).toInt * (b k).toInt) := by
  have hs : (∑ k, (((a k).toInt : ℝ) : EReal) * (((b k).toInt : ℝ) : EReal))
      = (((∑ k, (a k).toInt * (b k).toInt : ℤ) : ℝ) : EReal) := by
    push_cast
    rw [coe_sum]
    exact Finset.sum_congr rfl fun k _ => (EReal.coe_mul _ _).symm
  have hu : ∑ k, (a k).toInt * (b k).toInt ≤ ∑ _k : Fin K, (16384 : ℤ) :=
    Finset.sum_le_sum fun k _ => (word_mul_bound _ _).2
  have hl : ∑ _k : Fin K, (-16384 : ℤ) ≤ ∑ k, (a k).toInt * (b k).toInt :=
    Finset.sum_le_sum fun k _ => (word_mul_bound _ _).1
  simp only [Finset.sum_const, Finset.card_univ, Fintype.card_fin, nsmul_eq_mul] at hu hl
  have hK' : (K : ℤ) ≤ 1024 := by exact_mod_cast hK
  rw [hs, fptosi_int 32 _ (by norm_num; omega) (by norm_num; omega)]

/-! ## Chunks of the whole contraction -/

/-- Term `k` of the row's contraction with a weight column, 0 past the end: a total function of `k`. -/
def term (a b : Fin 7168 → BitVec 8) (k : ℕ) : ℤ := if h : k < 7168 then (a ⟨k, h⟩).toInt * (b ⟨k, h⟩).toInt else 0

/-- The int32 word of the whole contraction. -/
def dotWord (a b : Fin 7168 → BitVec 8) : BitVec 32 := BitVec.ofInt 32 (∑ k ∈ Finset.range 7168, term a b k)

/-- The int32 word of the chunk of `K` terms that starts at `o`. -/
def chunkWord (a b : Fin 7168 → BitVec 8) (K o : ℕ) : BitVec 32 := BitVec.ofInt 32 (∑ k ∈ Finset.range K, term a b (o + k))

/-- What a program computes for one chunk: the products read at `o + k` and converted. -/
theorem chunkWord_eq {K : ℕ} (hK : K ≤ 1024) (a b : Fin 7168 → BitVec 8) (o : ℕ) (ho : o + K ≤ 7168) (A B : Fin K → EReal)
    (hA : ∀ k : Fin K, A k = (((a ⟨o + k, by omega⟩).toInt : ℝ) : EReal))
    (hB : ∀ k : Fin K, B k = (((b ⟨o + k, by omega⟩).toInt : ℝ) : EReal)) :
    Ideal.fptosi 32 (∑ k, A k * B k) = chunkWord a b K o := by
  rw [Finset.sum_congr rfl fun k _ => by rw [hA k, hB k],
    chunk_word hK (fun k : Fin K => a ⟨o + k, by omega⟩) (fun k : Fin K => b ⟨o + k, by omega⟩)]
  unfold chunkWord
  rw [Finset.sum_range]
  refine congrArg _ (Finset.sum_congr rfl fun k _ => ?_)
  unfold term
  rw [dif_pos (by omega)]

/-- Chunk words add to the word of the longer chunk. -/
theorem chunkWord_add (a b : Fin 7168 → BitVec 8) (K L o : ℕ) :
    chunkWord a b K o + chunkWord a b L (o + K) = chunkWord a b (K + L) o := by
  unfold chunkWord
  rw [← BitVec.ofInt_add, Finset.sum_range_add]
  simp only [Nat.add_assoc]

theorem chunkWord_zero (a b : Fin 7168 → BitVec 8) (o : ℕ) : chunkWord a b 0 o = 0#32 := by
  unfold chunkWord; rfl

/-- A first chunk added to a cleared accumulator, and each next one. -/
theorem chunkWord_start (a b : Fin 7168 → BitVec 8) (K : ℕ) : 0#32 + chunkWord a b K 0 = chunkWord a b K 0 := by
  simp

theorem chunkWord_step (a b : Fin 7168 → BitVec 8) (K o p : ℕ) (hp : p = o + K) :
    chunkWord a b o 0 + chunkWord a b K o = chunkWord a b p 0 := by
  have := chunkWord_add a b o K 0
  rw [Nat.zero_add] at this
  rw [this, hp]

theorem chunkWord_all (a b : Fin 7168 → BitVec 8) : chunkWord a b 7168 0 = dotWord a b := by
  unfold chunkWord dotWord; simp only [Nat.zero_add]

/-- One element of the product: the accumulated word, times the row's scale, times the column's. -/
def rowOut (x s : Fin 7168 → EReal) (w : Fin 7168 → BitVec 8) (ws : EReal) : EReal :=
  (((dotWord (rowWord x s) w).toInt : ℝ) : EReal) * rowScale x s * ws

end Cert.Codes

end
-- ==== Proof.Payloads.lean ====
/-
  Hand-written, untrusted. WHAT THE KERNEL'S STORED VALUES ARE, element by element, over the extended reals: the quantising
  loop's three stores are `Codes.lean`'s row functions of the rows loaded, and each of the three product stores is one
  common shape (`tileY`): seven chunks of 1024 accumulated in int32, times the rows' scales, times the columns' scales.
-/
module

public import proofs.«01_k».proof.Proof.Codes
public import proofs.«01_k».proof.Proof.Gen.KernelIdeal.Skeleton

@[expose] public section

set_option maxRecDepth 16384

noncomputable section

namespace Cert.KernelIdeal.Block

open Idealize.ShloMosaic Cert.KernelIdeal Cert.KernelIdeal.Gen Cert.Codes

/-! ## The quantising loop -/

theorem pay2_apply (x : Vec Ideal S32x7168 .bf16) (s : Vec Ideal S1x7168 .f32) (r : Fin 32) :
    k0_pay2 (F := Ideal) x s (ix2 r 0) = rowScale (fun k => x (ix2 r k)) (fun k => s (ix2 0 k)) := by
  unfold k0_pay2 k0_pay1
  pointwise
  rfl

/-- The scale stored for row `r`. -/
theorem pay6_apply (x : Vec Ideal S32x7168 .bf16) (s : Vec Ideal S1x7168 .f32) (r : Fin 32) :
    k0_pay6 (F := Ideal) x s (ix2 r 0) = rowScale (fun k => x (ix2 r k)) (fun k => s (ix2 0 k)) := by
  unfold k0_pay6
  rw [shapeCast_self]
  exact pay2_apply x s r

theorem pay3_apply (x : Vec Ideal S32x7168 .bf16) (s : Vec Ideal S1x7168 .f32) (r : Fin 32) (k : Fin 7168) :
    k0_pay3 (F := Ideal) x s (ix2 r k) = rowCode (fun k => x (ix2 r k)) (fun k => s (ix2 0 k)) k := by
  unfold k0_pay3 k0_pay1
  pointwise
  rw [pay2_apply]
  rfl

/-- The int8 code stored for element `k` of row `r`. -/
theorem pay4_apply (x : Vec Ideal S32x7168 .bf16) (s : Vec Ideal S1x7168 .f32) (r : Fin 32) (k : Fin 7168) :
    k0_pay4 (F := Ideal) x s (ix2 r k) = rowWord (fun k => x (ix2 r k)) (fun k => s (ix2 0 k)) k := by
  unfold k0_pay4 rowWord
  rw [← pay3_apply]
  rfl

/-- The float code kept for the product. -/
theorem pay5_apply (x : Vec Ideal S32x7168 .bf16) (s : Vec Ideal S1x7168 .f32) (r : Fin 32) (k : Fin 7168) :
    k0_pay5 (F := Ideal) x s (ix2 r k) = rowCode (fun k => x (ix2 r k)) (fun k => s (ix2 0 k)) k := by
  unfold k0_pay5
  rw [shapeCast_self, ← pay3_apply]
  rfl

/-! ## The product, one tile of 512 columns -/

/-- One chunk: 1024 codes against 1024 weights, the product converted to int32. -/
def chunkI (A : Vec Ideal S384x1024 .bf16) (B : Vec Ideal S1024x512 .i8) : IVec S384x512 32 :=
  fptosi (F := Ideal) (φ := .f32) 32 (matmul (φ₁ := .bf16) (φ₂ := .bf16) dot_S384x1024_S1024x512_S384x512_1_0_0_1_n_n none A (sitofp (F := Ideal) .bf16 B)
    (constant S384x512 .f32 0x00000000#32))

/-- The tile's int32 accumulator after the seven chunks. -/
def tileAcc (A0 A1 A2 A3 A4 A5 A6 : Vec Ideal S384x1024 .bf16) (B0 B1 B2 B3 B4 B5 B6 : Vec Ideal S1024x512 .i8) : IVec S384x512 32 :=
  addi (addi (addi (addi (addi (addi (addi (broadcast S384x512 0#32) (chunkI A0 B0)) (chunkI A1 B1)) (chunkI A2 B2)) (chunkI A3 B3))
    (chunkI A4 B4)) (chunkI A5 B5)) (chunkI A6 B6)

/-- The tile stored: the accumulator as a float, times the rows' scales, times the columns' scales. -/
def tileY (A0 A1 A2 A3 A4 A5 A6 : Vec Ideal S384x1024 .bf16) (B0 B1 B2 B3 B4 B5 B6 : Vec Ideal S1024x512 .i8)
    (sc : Vec Ideal S384x1 .f32) (ws : Vec Ideal S1x512 .f32) : FVec Ideal S384x512 .bf16 :=
  truncf .bf16 (mulf (mulf (sitofp (F := Ideal) .f32 (tileAcc A0 A1 A2 A3 A4 A5 A6 B0 B1 B2 B3 B4 B5 B6))
    (broadcastTo S384x512 sc broadcasts_S384x1_S384x512))
    (broadcastTo S384x512 (shapeCast S1x512 ws shapeCasts_S1x512_S1x512) broadcasts_S1x512_S384x512)) bitsLt_bf16_f32

section
variable (A0 A1 A2 A3 A4 A5 A6 : Vec Ideal S384x1024 .bf16) (B0 B1 B2 B3 B4 B5 B6 : Vec Ideal S1024x512 .i8)
  (sc : Vec Ideal S384x1 .f32) (ws : Vec Ideal S1x512 .f32)

/-- Columns 0 to 511. -/
theorem tile0 : k0_pay8 (F := Ideal) (k0_pay7 A0 B0 A1 B1 A2 B2 A3 B3) A4 B4 A5 B5 A6 B6 sc ws
    = tileY A0 A1 A2 A3 A4 A5 A6 B0 B1 B2 B3 B4 B5 B6 sc ws := rfl

/-- Columns 512 to 1023. -/
theorem tile1 : k0_pay12 (F := Ideal) (k0_pay11 k0_pay9 A0 (k0_pay10 B0) (constant S384x512 .f32 0x00000000#32) A1 B1 A2 B2 A3 B3 A4 B4 A5 B5)
    A6 B6 sc ws = tileY A0 A1 A2 A3 A4 A5 A6 B0 B1 B2 B3 B4 B5 B6 sc ws := rfl

/-- Columns 1024 to 1535. -/
theorem tile2 : k0_pay15 (F := Ideal) (k0_pay13 A0 B0 A1 B1) (k0_pay14 A2 B2) A3 B3 A4 B4 A5 B5 A6 B6 sc ws
    = tileY A0 A1 A2 A3 A4 A5 A6 B0 B1 B2 B3 B4 B5 B6 sc ws := rfl

end

/-- A chunk at an element, its codes and weights known as int8 words. -/
theorem chunkI_apply (a b : Fin 7168 → BitVec 8) (o : ℕ) (ho : o + 1024 ≤ 7168) (A : Vec Ideal S384x1024 .bf16)
    (B : Vec Ideal S1024x512 .i8) (r : Fin 384) (j : Fin 512)
    (hA : ∀ k : Fin 1024, A (ix2 r k) = (((a ⟨o + k, by omega⟩).toInt : ℝ) : EReal))
    (hB : ∀ k : Fin 1024, B (ix2 k j) = b ⟨o + k, by omega⟩) :
    chunkI A B (ix2 r j) = chunkWord a b 1024 o := by
  rw [← chunkWord_eq (K := 1024) le_rfl a b o ho (fun k => A (ix2 r k)) (fun k => (((B (ix2 k j)).toInt : ℝ) : EReal)) hA
    (fun k => by rw [hB])]
  unfold chunkI
  pointwise
  rfl

/-- THE TILE AT AN ELEMENT: if the seven chunks are the consecutive pieces of a row of codes `a` and a column of weights
    `b`, it is the word of the whole contraction, as a float, times the two scales. -/
theorem tileY_apply (a b : Fin 7168 → BitVec 8) (A0 A1 A2 A3 A4 A5 A6 : Vec Ideal S384x1024 .bf16)
    (B0 B1 B2 B3 B4 B5 B6 : Vec Ideal S1024x512 .i8) (sc : Vec Ideal S384x1 .f32) (ws : Vec Ideal S1x512 .f32) (r : Fin 384) (j : Fin 512)
    (h0 : chunkI A0 B0 (ix2 r j) = chunkWord a b 1024 0) (h1 : chunkI A1 B1 (ix2 r j) = chunkWord a b 1024 1024)
    (h2 : chunkI A2 B2 (ix2 r j) = chunkWord a b 1024 2048) (h3 : chunkI A3 B3 (ix2 r j) = chunkWord a b 1024 3072)
    (h4 : chunkI A4 B4 (ix2 r j) = chunkWord a b 1024 4096) (h5 : chunkI A5 B5 (ix2 r j) = chunkWord a b 1024 5120)
    (h6 : chunkI A6 B6 (ix2 r j) = chunkWord a b 1024 6144) :
    tileY A0 A1 A2 A3 A4 A5 A6 B0 B1 B2 B3 B4 B5 B6 sc ws (ix2 r j)
      = (((dotWord a b).toInt : ℝ) : EReal) * sc (ix2 r 0) * ws (ix2 0 j) := by
  have hacc : tileAcc A0 A1 A2 A3 A4 A5 A6 B0 B1 B2 B3 B4 B5 B6 (ix2 r j) = dotWord a b := by
    show 0#32 + chunkI A0 B0 (ix2 r j) + chunkI A1 B1 (ix2 r j) + chunkI A2 B2 (ix2 r j) + chunkI A3 B3 (ix2 r j)
      + chunkI A4 B4 (ix2 r j) + chunkI A5 B5 (ix2 r j) + chunkI A6 B6 (ix2 r j) = _
    rw [h0, h1, h2, h3, h4, h5, h6, chunkWord_start, chunkWord_step a b 1024 1024 2048 rfl, chunkWord_step a b 1024 2048 3072 rfl,
      chunkWord_step a b 1024 3072 4096 rfl, chunkWord_step a b 1024 4096 5120 rfl, chunkWord_step a b 1024 5120 6144 rfl,
      chunkWord_step a b 1024 6144 7168 rfl, chunkWord_all]
  rw [← hacc]
  unfold tileY
  pointwise
  rfl

end Cert.KernelIdeal.Block

end
-- ==== Proof.Loop.lean ====
/-
  Hand-written, untrusted. WHAT THE QUANTISING LOOP LEAVES. Its twelve trips store 32 rows each into three buffers: the
  int8 codes returned, the float codes kept for the product, and the scales. Each trip's three pieces are blocks of ONE
  function of the 384-row block (`codesI`, `codesF`, `scales`), so the buffers hold those functions whole.
-/
module

public import proofs.«01_k».proof.Proof.Payloads
public import proofs.«01_k».proof.Proof.Gen.KernelIdeal.Value
public import Idealize.ShloMosaic.Lib.Pipeline.ValueKit

@[expose] public section

set_option maxRecDepth 16384

noncomputable section

namespace Cert.KernelIdeal.Block

open Idealize.ShloMosaic Idealize.ShloMosaic.TcCoe Idealize.SL.Sem
open Cert.KernelIdeal Cert.KernelIdeal.Gen Cert.Codes

/-- Row `r` of a block of activations. -/
abbrev rowOf (x0 : Vec Ideal S384x7168 .bf16) (r : Fin 384) : Fin 7168 → EReal := fun k => x0 (ix2 r k)

/-- The smoothing factors. -/
abbrev smoothOf (x1 : Vec Ideal S1x7168 .f32) : Fin 7168 → EReal := fun k => x1 (ix2 0 k)

/-- The block's int8 codes. -/
def codesI (x0 : Vec Ideal S384x7168 .bf16) (x1 : Vec Ideal S1x7168 .f32) : Vec Ideal S384x7168 .i8 :=
  fun y => rowWord (rowOf x0 (y 0)) (smoothOf x1) (y 1)

/-- The same codes as floats. -/
def codesF (x0 : Vec Ideal S384x7168 .bf16) (x1 : Vec Ideal S1x7168 .f32) : Vec Ideal S384x7168 .bf16 :=
  fun y => rowCode (rowOf x0 (y 0)) (smoothOf x1) (y 1)

/-- The block's scales, one a row. -/
def scales (x0 : Vec Ideal S384x7168 .bf16) (x1 : Vec Ideal S1x7168 .f32) : Vec Ideal S384x1 .f32 :=
  fun y => rowScale (rowOf x0 (y 0)) (smoothOf x1)

/-! ## One trip -/

section
variable (x0 : Vec Ideal S384x7168 .bf16) (x1 : Vec Ideal S1x7168 .f32) (k : Fin k0_t1_loop.trips)

/-- The rows trip `k` loads. -/
abbrev xs : Vec Ideal S32x7168 .bf16 := View.ld x0 (Rect.unit (s := S384x7168) (k0_off1 k) S32x7168.size (k0_off1_inb k))

/-- The smoothing factors it loads. -/
abbrev ss : Vec Ideal S1x7168 .f32 := View.ld x1 (Rect.unit (s := S1x7168) ![0, 0] S1x7168.size inb_S1x7168_S1x7168_0_0)

theorem row_lt (r : Fin 32) : 32 * k.val + r.val < 384 := by
  have := k.isLt; have := k0_t1_abs.2.1; omega

theorem xs_apply (r : Fin 32) (j : Fin 7168) : xs x0 k (ix2 r j) = x0 (ix2 ⟨32 * k.val + r.val, row_lt k r⟩ j) :=
  View.ld_unit_apply_of _ _ _ _ _ _ fun a => by
    rw [congrFun (k0_off1_eq k) a]; fin_cases a <;> simp

theorem ss_apply (j : Fin 7168) : ss x1 (ix2 0 j) = x1 (ix2 0 j) :=
  View.ld_unit_apply_of _ _ _ _ _ _ fun a => by fin_cases a <;> simp

theorem rows_eq (r : Fin 32) : (fun j => xs x0 k (ix2 r j)) = rowOf x0 ⟨32 * k.val + r.val, row_lt k r⟩ :=
  funext fun j => xs_apply x0 k r j

theorem smooth_eq : (fun j => ss x1 (ix2 0 j)) = smoothOf x1 := funext fun j => ss_apply x1 j

theorem emb1 (r : Fin 32) (j : Fin 7168) :
    (Rect.unit (s := S384x7168) (k0_off1 k) S32x7168.size (k0_off1_inb k)).emb (ix2 r j) = ix2 ⟨32 * k.val + r.val, row_lt k r⟩ j :=
  funext fun a => Fin.ext ((Rect.idx_unit_val _ _ _ _ a).trans (by
    rw [congrFun (k0_off1_eq k) a]; fin_cases a <;> simp))

theorem emb2 (r : Fin 32) :
    (Rect.unit (s := S384x1) (k0_off2 k) S32x1.size (k0_off2_inb k)).emb (ix2 r 0) = ix2 ⟨32 * k.val + r.val, row_lt k r⟩ 0 :=
  funext fun a => Fin.ext ((Rect.idx_unit_val _ _ _ _ a).trans (by
    rw [congrFun (k0_off2_eq k) a]; fin_cases a <;> simp))

/-- The codes stored by trip `k` are the block's codes there. -/
theorem pieceI (y : S32x7168.Idx) : k0_pay4 (F := Ideal) (xs x0 k) (ss x1) y
    = codesI x0 x1 ((Rect.unit (s := S384x7168) (k0_off1 k) S32x7168.size (k0_off1_inb k)).emb y) := by
  obtain ⟨r, j, rfl⟩ : ∃ (r : Fin 32) (j : Fin 7168), y = ix2 r j := ⟨y 0, y 1, eq_ix2 y⟩
  rw [emb1, pay4_apply, rows_eq, smooth_eq]; rfl

theorem pieceF (y : S32x7168.Idx) : k0_pay5 (F := Ideal) (xs x0 k) (ss x1) y
    = codesF x0 x1 ((Rect.unit (s := S384x7168) (k0_off1 k) S32x7168.size (k0_off1_inb k)).emb y) := by
  obtain ⟨r, j, rfl⟩ : ∃ (r : Fin 32) (j : Fin 7168), y = ix2 r j := ⟨y 0, y 1, eq_ix2 y⟩
  rw [emb1, pay5_apply, rows_eq, smooth_eq]; rfl

theorem pieceS (y : S32x1.Idx) : k0_pay6 (F := Ideal) (xs x0 k) (ss x1) y
    = scales x0 x1 ((Rect.unit (s := S384x1) (k0_off2 k) S32x1.size (k0_off2_inb k)).emb y) := by
  obtain ⟨r, j, rfl⟩ : ∃ (r : Fin 32) (j : Fin 1), y = ix2 r j := ⟨y 0, y 1, eq_ix2 y⟩
  obtain rfl : j = 0 := Subsingleton.elim _ _
  rw [emb2, pay6_apply, rows_eq, smooth_eq]; rfl

end

/-! ## The twelve trips -/

section
variable (c : Dev nD) (i : grid0.Coords)
  (arg1 : Memref sig .tc .vmem S384x7168 .bf16) (harg1 : arg1.IsWhole)
  (arg2 : Memref sig .tc .vmem S1x7168 .f32) (harg2 : arg2.IsWhole)
  (arg3 : Memref sig .tc .vmem S7168x1536 .i8) (harg3 : arg3.IsWhole)
  (arg4 : Memref sig .tc .vmem S1x1536 .f32) (harg4 : arg4.IsWhole)
  (arg5 : Memref sig .tc .vmem S384x1536 .bf16) (harg5 : arg5.IsWhole)
  (arg6 : Memref sig .tc .vmem S384x7168 .i8) (harg6 : arg6.IsWhole)
  (arg7 : Memref sig .tc .vmem S384x1 .f32) (harg7 : arg7.IsWhole)
  (arg8 : Memref sig .tc .vmem S384x7168 .bf16) (harg8 : arg8.IsWhole)
  (arg9 : Memref sig .tc .vmem S384x1 .f32) (harg9 : arg9.IsWhole)
  (x0 : Vec Ideal S384x7168 .bf16) (x1 : Vec Ideal S1x7168 .f32)

/-- One trip's stores, in the order of the three buffers. -/
theorem trip_eq (k : Fin k0_t1_loop.trips) :
    tripL_k0_t1 (F := Ideal) Variants.none c none i arg1 harg1 arg2 harg2 arg3 harg3 arg4 harg4 arg5 harg5 arg6 harg6 arg7 harg7 arg8 harg8 arg9 harg9
        (harg1.unread x0) (harg2.unread x1) k
      = ([⟨Rect.unit (s := S384x7168) (k0_off1 k) S32x7168.size (k0_off1_inb k), k0_pay4 (F := Ideal) (xs x0 k) (ss x1)⟩],
         [⟨Rect.unit (s := S384x7168) (k0_off1 k) S32x7168.size (k0_off1_inb k), k0_pay5 (F := Ideal) (xs x0 k) (ss x1)⟩],
         [⟨Rect.unit (s := S384x1) (k0_off2 k) S32x1.size (k0_off2_inb k), k0_pay6 (F := Ideal) (xs x0 k) (ss x1)⟩]) := by
  unfold tripL_k0_t1 trip_k0_t1
  dsimp only
  sl_unfold_words
  simp only [View.readAt_eq_ld, harg1.read_unread, harg2.read_unread]
  rfl

/-- The pieces stored by the first `n` trips. -/
abbrev pbs (n : ℕ) := pb_k0_t1 (F := Ideal) Variants.none c none i arg1 harg1 arg2 harg2 arg3 harg3 arg4 harg4 arg5 harg5 arg6 harg6 arg7 harg7 arg8 harg8 arg9 harg9
  (harg1.unread x0) (harg2.unread x1) n

/-- Every piece stored is a block of the one function its buffer holds. -/
theorem pieces (n : ℕ) (hn : n ≤ k0_t1_loop.trips) :
    (∀ p ∈ (pbs c i arg1 harg1 arg2 harg2 arg3 harg3 arg4 harg4 arg5 harg5 arg6 harg6 arg7 harg7 arg8 harg8 arg9 harg9 x0 x1 n).1, ∀ y : p.1.shape.Idx, p.2 y = codesI x0 x1 (p.1.emb y))
    ∧ (∀ p ∈ (pbs c i arg1 harg1 arg2 harg2 arg3 harg3 arg4 harg4 arg5 harg5 arg6 harg6 arg7 harg7 arg8 harg8 arg9 harg9 x0 x1 n).2.1, ∀ y : p.1.shape.Idx, p.2 y = codesF x0 x1 (p.1.emb y))
    ∧ (∀ p ∈ (pbs c i arg1 harg1 arg2 harg2 arg3 harg3 arg4 harg4 arg5 harg5 arg6 harg6 arg7 harg7 arg8 harg8 arg9 harg9 x0 x1 n).2.2, ∀ y : p.1.shape.Idx, p.2 y = scales x0 x1 (p.1.emb y)) := by
  induction n with
  | zero => refine ⟨?_, ?_, ?_⟩ <;> exact fun p hp => absurd hp List.not_mem_nil
  | succ n ih =>
    obtain ⟨h1, h2, h3⟩ := ih (by omega)
    have hs := pb_k0_t1_succ (F := Ideal) Variants.none c none i arg1 harg1 arg2 harg2 arg3 harg3 arg4 harg4 arg5 harg5 arg6 harg6 arg7 harg7 arg8 harg8 arg9 harg9
      (harg1.unread x0) (harg2.unread x1) ⟨n, by omega⟩
    rw [trip_eq] at hs
    refine ⟨?_, ?_, ?_⟩
    · intro p hp
      rw [pbs, hs] at hp
      rcases List.mem_cons.mp hp with rfl | hp
      · exact pieceI x0 x1 ⟨n, by omega⟩
      · exact h1 p hp
    · intro p hp
      rw [pbs, hs] at hp
      rcases List.mem_cons.mp hp with rfl | hp
      · exact pieceF x0 x1 ⟨n, by omega⟩
      · exact h2 p hp
    · intro p hp
      rw [pbs, hs] at hp
      rcases List.mem_cons.mp hp with rfl | hp
      · dsimp only; exact pieceS x0 x1 ⟨n, by omega⟩
      · exact h3 p hp

/-- The returned codes after the loop. -/
theorem canonI : View.canon (pbs c i arg1 harg1 arg2 harg2 arg3 harg3 arg4 harg4 arg5 harg5 arg6 harg6 arg7 harg7 arg8 harg8 arg9 harg9 x0 x1 (Scf.trips 0#32 (Scalar.addi 0#32 12#32) 1#32)).1 = codesI x0 x1 :=
  funext fun y => View.canon_apply_of_pieces _ _ (pieces c i arg1 harg1 arg2 harg2 arg3 harg3 arg4 harg4 arg5 harg5 arg6 harg6 arg7 harg7 arg8 harg8 arg9 harg9 x0 x1 _ le_rfl).1 y
    (View.cover_of_tiledL (pbs c i arg1 harg1 arg2 harg2 arg3 harg3 arg4 harg4 arg5 harg5 arg6 harg6 arg7 harg7 arg8 harg8 arg9 harg9 x0 x1 (Scf.trips 0#32 (Scalar.addi 0#32 12#32) 1#32)).1
      S32x7168.size (by sl_kernel_rfl) y)

theorem coverF : ∀ y, ∃ p ∈ (pbs c i arg1 harg1 arg2 harg2 arg3 harg3 arg4 harg4 arg5 harg5 arg6 harg6 arg7 harg7 arg8 harg8 arg9 harg9 x0 x1 (Scf.trips 0#32 (Scalar.addi 0#32 12#32) 1#32)).2.1, y ∈ p.1.set :=
  View.cover_of_tiledL _ S32x7168.size (by sl_kernel_rfl)

theorem coverS : ∀ y, ∃ p ∈ (pbs c i arg1 harg1 arg2 harg2 arg3 harg3 arg4 harg4 arg5 harg5 arg6 harg6 arg7 harg7 arg8 harg8 arg9 harg9 x0 x1 (Scf.trips 0#32 (Scalar.addi 0#32 12#32) 1#32)).2.2, y ∈ p.1.set :=
  View.cover_of_tiledL _ S32x1.size (by sl_kernel_rfl)

/-- A load of the float codes after the loop. -/
theorem readF (v : View sig .tc .vmem S384x7168 .bf16) (r : Rect S384x7168) :
    v.readCov (pbs c i arg1 harg1 arg2 harg2 arg3 harg3 arg4 harg4 arg5 harg5 arg6 harg6 arg7 harg7 arg8 harg8 arg9 harg9 x0 x1 (Scf.trips 0#32 (Scalar.addi 0#32 12#32) 1#32)).2.1 r = View.ld (codesF x0 x1) r := by
  rw [View.readCov_eq_canon_ld _ _ _ (coverF c i arg1 harg1 arg2 harg2 arg3 harg3 arg4 harg4 arg5 harg5 arg6 harg6 arg7 harg7 arg8 harg8 arg9 harg9 x0 x1)]
  congr 1
  exact funext fun y => View.canon_apply_of_pieces _ _ (pieces c i arg1 harg1 arg2 harg2 arg3 harg3 arg4 harg4 arg5 harg5 arg6 harg6 arg7 harg7 arg8 harg8 arg9 harg9 x0 x1 _ le_rfl).2.1 y
    (coverF c i arg1 harg1 arg2 harg2 arg3 harg3 arg4 harg4 arg5 harg5 arg6 harg6 arg7 harg7 arg8 harg8 arg9 harg9 x0 x1 y)

/-- A load of the scales after the loop. -/
theorem readS (v : View sig .tc .vmem S384x1 .f32) (r : Rect S384x1) :
    v.readCov (pbs c i arg1 harg1 arg2 harg2 arg3 harg3 arg4 harg4 arg5 harg5 arg6 harg6 arg7 harg7 arg8 harg8 arg9 harg9 x0 x1 (Scf.trips 0#32 (Scalar.addi 0#32 12#32) 1#32)).2.2 r = View.ld (scales x0 x1) r := by
  rw [View.readCov_eq_canon_ld _ _ _ (coverS c i arg1 harg1 arg2 harg2 arg3 harg3 arg4 harg4 arg5 harg5 arg6 harg6 arg7 harg7 arg8 harg8 arg9 harg9 x0 x1)]
  congr 1
  exact funext fun y => View.canon_apply_of_pieces _ _ (pieces c i arg1 harg1 arg2 harg2 arg3 harg3 arg4 harg4 arg5 harg5 arg6 harg6 arg7 harg7 arg8 harg8 arg9 harg9 x0 x1 _ le_rfl).2.2 y
    (coverS c i arg1 harg1 arg2 harg2 arg3 harg3 arg4 harg4 arg5 harg5 arg6 harg6 arg7 harg7 arg8 harg8 arg9 harg9 x0 x1 y)

end

end Cert.KernelIdeal.Block

end
-- ==== Proof.Block.lean ====
/-
  Hand-written, untrusted. WHAT ONE GRID STEP WRITES BACK: from 384 rows of activations, the smoothing factors, the int8
  weights and their scales, the block of the product (`blockY`), of the int8 codes and of the row scales.
-/
module

public import proofs.«01_k».proof.Proof.Loop

@[expose] public section

set_option maxRecDepth 16384

noncomputable section

namespace Cert.KernelIdeal.Block

open Idealize.ShloMosaic Idealize.ShloMosaic.TcCoe Idealize.SL.Sem
open Cert.KernelIdeal Cert.KernelIdeal.Gen Cert.Codes

/-- The block of the product: row against column, `Codes.lean`'s `rowOut`. -/
def blockY (x0 : Vec Ideal S384x7168 .bf16) (x1 : Vec Ideal S1x7168 .f32) (x2 : Vec Ideal S7168x1536 .i8)
    (x3 : Vec Ideal S1x1536 .f32) : Vec Ideal S384x1536 .bf16 :=
  fun y => rowOut (rowOf x0 (y 0)) (smoothOf x1) (fun k => x2 (ix2 k (y 1))) (x3 (ix2 0 (y 1)))

section
variable (x0 : Vec Ideal S384x7168 .bf16) (x1 : Vec Ideal S1x7168 .f32) (x2 : Vec Ideal S7168x1536 .i8)
  (x3 : Vec Ideal S1x1536 .f32)

/-- A chunk's word, its codes and weights loaded from columns `p …` and rows `p …`. -/
theorem chunk_ld (p o : ℕ) (hA : ∀ a, (![0, p] : Fin 2 → ℕ) a + S384x1024.size a ≤ S384x7168.size a)
    (hB : ∀ a, (![p, o] : Fin 2 → ℕ) a + S1024x512.size a ≤ S7168x1536.size a) (r : Fin 384) (j : Fin 512) (q : Fin 1536)
    (hq : q.val = o + j.val) :
    chunkI (View.ld (codesF x0 x1) (Rect.unit (s := S384x7168) ![0, p] S384x1024.size hA))
        (View.ld x2 (Rect.unit (s := S7168x1536) ![p, o] S1024x512.size hB)) (ix2 r j)
      = chunkWord (rowWord (rowOf x0 r) (smoothOf x1)) (fun k => x2 (ix2 k q)) 1024 p := by
  have hp : p + 1024 ≤ 7168 := hA 1
  refine chunkI_apply _ _ p hp _ _ r j (fun k => ?_) (fun k => ?_)
  · rw [View.ld_unit_apply_of _ _ _ _ _ (ix2 r ⟨p + k.val, by omega⟩) fun a => by fin_cases a <;> simp]
    exact rowCode_eq _ _ _
  · exact View.ld_unit_apply_of _ _ _ _ _ (ix2 ⟨p + k.val, by omega⟩ q) fun a => by fin_cases a <;> simp [hq]

theorem scale_ld (h : ∀ a, (![0, 0] : Fin 2 → ℕ) a + S384x1.size a ≤ S384x1.size a) (r : Fin 384) :
    View.ld (scales x0 x1) (Rect.unit (s := S384x1) ![0, 0] S384x1.size h) (ix2 r 0) = rowScale (rowOf x0 r) (smoothOf x1) :=
  View.ld_unit_apply_of _ _ _ _ _ (ix2 r 0) fun a => by fin_cases a <;> simp

theorem ws_ld (o : ℕ) (h : ∀ a, (![0, o] : Fin 2 → ℕ) a + S1x512.size a ≤ S1x1536.size a) (j : Fin 512) (q : Fin 1536)
    (hq : q.val = o + j.val) :
    View.ld x3 (Rect.unit (s := S1x1536) ![0, o] S1x512.size h) (ix2 0 j) = x3 (ix2 0 q) :=
  View.ld_unit_apply_of _ _ _ _ _ (ix2 0 q) fun a => by fin_cases a <;> simp [hq]

/-- The tile stored at column `o` is the block there. -/
theorem tile_ld (o : ℕ) (ho : ∀ a, (![0, o] : Fin 2 → ℕ) a + S384x512.size a ≤ S384x1536.size a) (a0 a1 a2 a3 a4 a5 a6 b0 b1 b2 b3 b4 b5 b6 s w)
    (y : S384x512.Idx) :
    tileY (View.ld (codesF x0 x1) (Rect.unit (s := S384x7168) ![0, 0] S384x1024.size a0))
      (View.ld (codesF x0 x1) (Rect.unit (s := S384x7168) ![0, 1024] S384x1024.size a1))
      (View.ld (codesF x0 x1) (Rect.unit (s := S384x7168) ![0, 2048] S384x1024.size a2))
      (View.ld (codesF x0 x1) (Rect.unit (s := S384x7168) ![0, 3072] S384x1024.size a3))
      (View.ld (codesF x0 x1) (Rect.unit (s := S384x7168) ![0, 4096] S384x1024.size a4))
      (View.ld (codesF x0 x1) (Rect.unit (s := S384x7168) ![0, 5120] S384x1024.size a5))
      (View.ld (codesF x0 x1) (Rect.unit (s := S384x7168) ![0, 6144] S384x1024.size a6))
      (View.ld x2 (Rect.unit (s := S7168x1536) ![0, o] S1024x512.size b0))
      (View.ld x2 (Rect.unit (s := S7168x1536) ![1024, o] S1024x512.size b1))
      (View.ld x2 (Rect.unit (s := S7168x1536) ![2048, o] S1024x512.size b2))
      (View.ld x2 (Rect.unit (s := S7168x1536) ![3072, o] S1024x512.size b3))
      (View.ld x2 (Rect.unit (s := S7168x1536) ![4096, o] S1024x512.size b4))
      (View.ld x2 (Rect.unit (s := S7168x1536) ![5120, o] S1024x512.size b5))
      (View.ld x2 (Rect.unit (s := S7168x1536) ![6144, o] S1024x512.size b6))
      (View.ld (scales x0 x1) (Rect.unit (s := S384x1) ![0, 0] S384x1.size s))
      (View.ld x3 (Rect.unit (s := S1x1536) ![0, o] S1x512.size w)) y
    = blockY x0 x1 x2 x3 ((Rect.unit (s := S384x1536) ![0, o] S384x512.size ho).emb y) := by
  obtain ⟨r, j, rfl⟩ : ∃ (r : Fin 384) (j : Fin 512), y = ix2 r j := ⟨y 0, y 1, eq_ix2 y⟩
  have ho' : o + 512 ≤ 1536 := ho 1
  have hemb : (Rect.unit (s := S384x1536) ![0, o] S384x512.size ho).emb (ix2 r j) = ix2 r ⟨o + j.val, by omega⟩ :=
    funext fun a => Fin.ext ((Rect.idx_unit_val _ _ _ _ a).trans (by fin_cases a <;> simp))
  rw [hemb]
  refine (tileY_apply (rowWord (rowOf x0 r) (smoothOf x1)) (fun k => x2 (ix2 k ⟨o + j.val, by omega⟩)) _ _ _ _ _ _ _ _ _ _ _ _ _ _ _ _ r j
    ?_ ?_ ?_ ?_ ?_ ?_ ?_).trans ?_
  · exact chunk_ld x0 x1 x2 0 o a0 b0 r j ⟨o + j.val, by omega⟩ rfl
  · exact chunk_ld x0 x1 x2 1024 o a1 b1 r j ⟨o + j.val, by omega⟩ rfl
  · exact chunk_ld x0 x1 x2 2048 o a2 b2 r j ⟨o + j.val, by omega⟩ rfl
  · exact chunk_ld x0 x1 x2 3072 o a3 b3 r j ⟨o + j.val, by omega⟩ rfl
  · exact chunk_ld x0 x1 x2 4096 o a4 b4 r j ⟨o + j.val, by omega⟩ rfl
  · exact chunk_ld x0 x1 x2 5120 o a5 b5 r j ⟨o + j.val, by omega⟩ rfl
  · exact chunk_ld x0 x1 x2 6144 o a6 b6 r j ⟨o + j.val, by omega⟩ rfl
  · rw [scale_ld, ws_ld x3 o w j ⟨o + j.val, by omega⟩ rfl]
    rfl

end

section
variable (c : Dev nD) (i : grid0.Coords)
  (arg1 : Memref sig .tc .vmem S384x7168 .bf16) (harg1 : arg1.IsWhole)
  (arg2 : Memref sig .tc .vmem S1x7168 .f32) (harg2 : arg2.IsWhole)
  (arg3 : Memref sig .tc .vmem S7168x1536 .i8) (harg3 : arg3.IsWhole)
  (arg4 : Memref sig .tc .vmem S1x1536 .f32) (harg4 : arg4.IsWhole)
  (arg5 : Memref sig .tc .vmem S384x1536 .bf16) (harg5 : arg5.IsWhole)
  (arg6 : Memref sig .tc .vmem S384x7168 .i8) (harg6 : arg6.IsWhole)
  (arg7 : Memref sig .tc .vmem S384x1 .f32) (harg7 : arg7.IsWhole)
  (arg8 : Memref sig .tc .vmem S384x7168 .bf16) (harg8 : arg8.IsWhole)
  (arg9 : Memref sig .tc .vmem S384x1 .f32) (harg9 : arg9.IsWhole)
  (x0 : Vec Ideal S384x7168 .bf16) (x1 : Vec Ideal S1x7168 .f32) (x2 : Vec Ideal S7168x1536 .i8) (x3 : Vec Ideal S1x1536 .f32)

/-- The first result's block. -/
theorem out4_eq : out0_A_4 (F := Ideal) c i arg1 harg1 arg2 harg2 arg3 harg3 arg4 harg4 arg5 harg5 arg6 harg6 arg7 harg7 arg8 harg8 arg9 harg9 x0 x1 x2 x3
    = blockY x0 x1 x2 x3 := by
  unfold out0_A_4
  rw [View.read_writes_junk_eq_canon]
  refine funext fun y => View.canon_apply_of_pieces _ _ ?_ y (cover0_A_4 c i arg1 harg1 arg2 harg2 arg3 harg3 arg4 harg4 arg5 harg5 arg6 harg6 arg7 harg7 arg8 harg8 arg9 harg9 x0 x1 x2 x3 y)
  unfold kernelRun0_A
  dsimp only
  sl_unfold_words
  simp only [View.readAt_eq_ld, harg1.read_unread, harg2.read_unread, harg3.read_unread, harg4.read_unread, tile0, tile1, tile2]
  rw [
    readF c i arg1 harg1 arg2 harg2 arg3 harg3 arg4 harg4 arg5 harg5 arg6 harg6 arg7 harg7 arg8 harg8 arg9 harg9 x0 x1 arg8.view (Rect.unit ![0, 0] ![384, 1024] inb_S384x7168_S384x1024_0_0),
    readF c i arg1 harg1 arg2 harg2 arg3 harg3 arg4 harg4 arg5 harg5 arg6 harg6 arg7 harg7 arg8 harg8 arg9 harg9 x0 x1 arg8.view (Rect.unit ![0, 1024] ![384, 1024] inb_S384x7168_S384x1024_0_1024),
    readF c i arg1 harg1 arg2 harg2 arg3 harg3 arg4 harg4 arg5 harg5 arg6 harg6 arg7 harg7 arg8 harg8 arg9 harg9 x0 x1 arg8.view (Rect.unit ![0, 2048] ![384, 1024] inb_S384x7168_S384x1024_0_2048),
    readF c i arg1 harg1 arg2 harg2 arg3 harg3 arg4 harg4 arg5 harg5 arg6 harg6 arg7 harg7 arg8 harg8 arg9 harg9 x0 x1 arg8.view (Rect.unit ![0, 3072] ![384, 1024] inb_S384x7168_S384x1024_0_3072),
    readF c i arg1 harg1 arg2 harg2 arg3 harg3 arg4 harg4 arg5 harg5 arg6 harg6 arg7 harg7 arg8 harg8 arg9 harg9 x0 x1 arg8.view (Rect.unit ![0, 4096] ![384, 1024] inb_S384x7168_S384x1024_0_4096),
    readF c i arg1 harg1 arg2 harg2 arg3 harg3 arg4 harg4 arg5 harg5 arg6 harg6 arg7 harg7 arg8 harg8 arg9 harg9 x0 x1 arg8.view (Rect.unit ![0, 5120] ![384, 1024] inb_S384x7168_S384x1024_0_5120),
    readF c i arg1 harg1 arg2 harg2 arg3 harg3 arg4 harg4 arg5 harg5 arg6 harg6 arg7 harg7 arg8 harg8 arg9 harg9 x0 x1 arg8.view (Rect.unit ![0, 6144] ![384, 1024] inb_S384x7168_S384x1024_0_6144),
    readS c i arg1 harg1 arg2 harg2 arg3 harg3 arg4 harg4 arg5 harg5 arg6 harg6 arg7 harg7 arg8 harg8 arg9 harg9 x0 x1 arg9.view (Rect.unit ![0, 0] ![384, 1] inb_S384x1_S384x1_0_0)]

  intro p hp
  rcases List.mem_cons.mp hp with rfl | hp
  · dsimp only; exact tile_ld x0 x1 x2 x3 1024 _ _ _ _ _ _ _ _ _ _ _ _ _ _ _ _ _
  rcases List.mem_cons.mp hp with rfl | hp
  · dsimp only; exact tile_ld x0 x1 x2 x3 512 _ _ _ _ _ _ _ _ _ _ _ _ _ _ _ _ _
  rcases List.mem_cons.mp hp with rfl | hp
  · dsimp only; exact tile_ld x0 x1 x2 x3 0 _ _ _ _ _ _ _ _ _ _ _ _ _ _ _ _ _
  exact absurd hp List.not_mem_nil

/-- The second result's block. -/
theorem out5_eq : out0_A_5 (F := Ideal) c i arg1 harg1 arg2 harg2 arg3 harg3 arg4 harg4 arg5 harg5 arg6 harg6 arg7 harg7 arg8 harg8 arg9 harg9 x0 x1 x2 x3
    = codesI x0 x1 := by
  unfold out0_A_5
  rw [View.read_writes_junk_eq_canon]
  unfold kernelRun0_A
  dsimp only
  sl_unfold_words
  exact canonI c i arg1 harg1 arg2 harg2 arg3 harg3 arg4 harg4 arg5 harg5 arg6 harg6 arg7 harg7 arg8 harg8 arg9 harg9 x0 x1

/-- The third result's block. -/
theorem out6_eq : out0_A_6 (F := Ideal) c i arg1 harg1 arg2 harg2 arg3 harg3 arg4 harg4 arg5 harg5 arg6 harg6 arg7 harg7 arg8 harg8 arg9 harg9 x0 x1 x2 x3
    = scales x0 x1 := by
  unfold out0_A_6
  rw [View.read_writes_junk_eq_canon]
  unfold kernelRun0_A
  dsimp only
  sl_unfold_words
  rw [readS c i arg1 harg1 arg2 harg2 arg3 harg3 arg4 harg4 arg5 harg5 arg6 harg6 arg7 harg7 arg8 harg8 arg9 harg9 x0 x1 arg9.view (Rect.unit ![0, 0] ![384, 1] inb_S384x1_S384x1_0_0)]
  have hz : (![0, 0] : Fin 2 → ℕ) = fun _ => 0 := by decide
  exact (View.canon_unit_zero hz _ _).trans (View.ld_unit_zero hz _ _)

end

end Cert.KernelIdeal.Block

end
-- ==== Proof.Whole.lean ====
/-
  Hand-written, untrusted. THE THREE RESULTS AS FUNCTIONS OF THE WHOLE ARRAYS: 4608 rows of activations `X`, smoothing
  factors `S`, int8 weights `W`, their scales `Q`. Both programs' result arrays are proved to be these.
-/
module

public import proofs.«01_k».proof.Proof.Codes

@[expose] public section

noncomputable section

namespace Cert.Codes

open Idealize.ShloMosaic

/-- The rows' scales. -/
def wholeS (X : (⟨2, ![4608, 7168]⟩ : Shape).Idx → EReal) (S : (⟨2, ![1, 7168]⟩ : Shape).Idx → EReal) :
    (⟨2, ![4608, 1]⟩ : Shape).Idx → EReal :=
  fun y => rowScale (fun k => X (ix2 (y 0) k)) (fun k => S (ix2 0 k))

/-- The int8 codes. -/
def wholeI (X : (⟨2, ![4608, 7168]⟩ : Shape).Idx → EReal) (S : (⟨2, ![1, 7168]⟩ : Shape).Idx → EReal) :
    (⟨2, ![4608, 7168]⟩ : Shape).Idx → BitVec 8 :=
  fun y => rowWord (fun k => X (ix2 (y 0) k)) (fun k => S (ix2 0 k)) (y 1)

/-- The product. -/
def wholeY (X : (⟨2, ![4608, 7168]⟩ : Shape).Idx → EReal) (S : (⟨2, ![1, 7168]⟩ : Shape).Idx → EReal)
    (W : (⟨2, ![7168, 1536]⟩ : Shape).Idx → BitVec 8) (Q : (⟨2, ![1, 1536]⟩ : Shape).Idx → EReal) :
    (⟨2, ![4608, 1536]⟩ : Shape).Idx → EReal :=
  fun y => rowOut (fun k => X (ix2 (y 0) k)) (fun k => S (ix2 0 k)) (fun k => W (ix2 k (y 1))) (Q (ix2 0 (y 1)))

end Cert.Codes

end
-- ==== Proof.KernelArrays.lean ====
/-
  Hand-written, untrusted. THE KERNEL'S THREE RESULT ARRAYS. Grid step `t` works on rows `384 * t …`; its three blocks are
  blocks of `Whole.lean`'s functions of the arrays the launch finds, and the twelve steps' blocks fill the results.
-/
module

public import proofs.«01_k».proof.Proof.Block
public import proofs.«01_k».proof.Proof.Whole
public import Idealize.ShloMosaic.Lib.Pipeline.ValueKit

@[expose] public section

set_option maxRecDepth 16384

noncomputable section

namespace Cert.KernelIdeal.Arrays

open Idealize.ShloMosaic Idealize.ShloMosaic.TcCoe Idealize.SL.Sem
open Cert.KernelIdeal Cert.KernelIdeal.Gen Cert.KernelIdeal.Block Cert.Codes

variable (m : (ℓ : Loc nD τ sig) → Buf (Elt Ideal) ℓ)

/-- Which block each window is at. -/
theorem idx : ∀ t : Fin grid0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0] := by
  decide +kernel

theorem row_lt (t : Fin cfg0.N) (r : Fin 384) : 384 * t.val + r.val < 4608 := by
  have : t.val < 12 := t.isLt
  omega

/-- Row `r` of step `t`'s block, in the whole array. -/
abbrev row (t : Fin cfg0.N) (r : Fin 384) : Fin 4608 := ⟨384 * t.val + r.val, row_lt t r⟩

/-! ## The arrays the launch finds: the arguments, reshaped -/

theorem V0 (c : Dev nD) : V m c main_v0
    = shapeCast (⟨2, ![4608, 7168]⟩ : Shape) (m ((c : Thread nD τ).loc main_arg0)) shapeCasts_S2x2304x7168_S4608x7168 := by
  unfold_abbrev_sides
  after_results
  rfl

theorem V1 (c : Dev nD) : V m c main_v1
    = shapeCast (⟨2, ![1, 7168]⟩ : Shape) (m ((c : Thread nD τ).loc main_arg1)) shapeCasts_S7168_S1x7168 := by
  unfold_abbrev_sides
  after_results
  rfl

theorem V2 (c : Dev nD) : V m c main_v2
    = shapeCast (⟨2, ![1, 1536]⟩ : Shape) (m ((c : Thread nD τ).loc main_arg3)) shapeCasts_S1536_S1x1536 := by
  unfold_abbrev_sides
  after_results
  rfl

/-! ## The blocks read -/

theorem iblk0 (c : Dev nD) (t : Fin cfg0.N) (r : Fin 384) (k : Fin 7168) :
    iblk m c 0 t (ix2 r k) = V m c main_v0 (ix2 (row t r) k) := by
  blk_ext [iblk, (idx t).1]

theorem iblk1 (c : Dev nD) (t : Fin cfg0.N) (k : Fin 7168) : iblk m c 1 t (ix2 0 k) = V m c main_v1 (ix2 0 k) := by
  blk_ext [iblk, (idx t).2.1]

theorem iblk2 (c : Dev nD) (t : Fin cfg0.N) (k : Fin 7168) (j : Fin 1536) : iblk m c 2 t (ix2 k j) = V m c main_arg2 (ix2 k j) := by
  blk_ext [iblk, (idx t).2.2.1]

theorem iblk3 (c : Dev nD) (t : Fin cfg0.N) (j : Fin 1536) : iblk m c 3 t (ix2 0 j) = V m c main_v2 (ix2 0 j) := by
  blk_ext [iblk, (idx t).2.2.2.1]

theorem rows (c : Dev nD) (t : Fin cfg0.N) (r : Fin 384) :
    rowOf (iblk m c 0 t) r = fun k => V m c main_v0 (ix2 (row t r) k) := funext fun k => iblk0 m c t r k

theorem smooth (c : Dev nD) (t : Fin cfg0.N) : smoothOf (iblk m c 1 t) = fun k => V m c main_v1 (ix2 0 k) :=
  funext fun k => iblk1 m c t k

theorem cols (c : Dev nD) (t : Fin cfg0.N) (j : Fin 1536) :
    (fun k : Fin 7168 => iblk m c 2 t (ix2 k j)) = fun k => V m c main_arg2 (ix2 k j) := funext fun k => iblk2 m c t k j

/-! ## The arrays written -/

/-- The first result. -/
theorem arr4 (c : Dev nD) : (dats m 0 c).arrAt 4 cfg0.N
    = wholeY (V m c main_v0) (V m c main_v1) (V m c main_arg2) (V m c main_v2) := by
  refine (dats m 0 c).arrAt_eq_of_covers 4 _ (by decide +kernel) fun t hf y => ?_
  obtain ⟨r, j, rfl⟩ : ∃ (r : Fin 384) (j : Fin 1536), y = ix2 r j := ⟨y 0, y 1, eq_ix2 y⟩
  have he : ((cfg0.win 4).blk t).view.emb (ix2 r j) = ix2 (row t r) j := by blk_ext [(idx t).2.2.2.2.1]
  rw [he]
  blk_simp
  rw [after0_4]
  simp only [outsAt0, out4_eq]
  show rowOut (rowOf (iblk m c 0 t) r) (smoothOf (iblk m c 1 t)) (fun k => iblk m c 2 t (ix2 k j)) (iblk m c 3 t (ix2 0 j)) = _
  rw [rows, smooth, cols, iblk3]
  rfl

/-- The second result. -/
theorem arr5 (c : Dev nD) : (dats m 0 c).arrAt 5 cfg0.N = wholeI (V m c main_v0) (V m c main_v1) := by
  refine (dats m 0 c).arrAt_eq_of_covers 5 _ (by decide +kernel) fun t hf y => ?_
  obtain ⟨r, j, rfl⟩ : ∃ (r : Fin 384) (j : Fin 7168), y = ix2 r j := ⟨y 0, y 1, eq_ix2 y⟩
  have he : ((cfg0.win 5).blk t).view.emb (ix2 r j) = ix2 (row t r) j := by blk_ext [(idx t).2.2.2.2.2.1]
  rw [he]
  blk_simp
  rw [after0_5]
  simp only [outsAt0, out5_eq]
  show rowWord (rowOf (iblk m c 0 t) r) (smoothOf (iblk m c 1 t)) j = _
  rw [rows, smooth]
  rfl

/-- The third result. -/
theorem arr6 (c : Dev nD) : (dats m 0 c).arrAt 6 cfg0.N = wholeS (V m c main_v0) (V m c main_v1) := by
  refine (dats m 0 c).arrAt_eq_of_covers 6 _ (by decide +kernel) fun t hf y => ?_
  obtain ⟨r, j, rfl⟩ : ∃ (r : Fin 384) (j : Fin 1), y = ix2 r j := ⟨y 0, y 1, eq_ix2 y⟩
  have he : ((cfg0.win 6).blk t).view.emb (ix2 r j) = ix2 (row t r) j := by blk_ext [(idx t).2.2.2.2.2.2]
  rw [he]
  blk_simp
  rw [after0_6]
  simp only [outsAt0, out6_eq]
  show rowScale (rowOf (iblk m c 0 t) r) (smoothOf (iblk m c 1 t)) = _
  rw [rows, smooth]
  rfl

end Cert.KernelIdeal.Arrays

end
-- ==== Proof.Rows.lean ====
/-
  Hand-written, untrusted. THE QUANTISER OVER ANY NUMBER OF ROWS: a vector program's row maxima, scales and codes at an
  element, for an array of `R` rows — stated for a variable `R`, so that nothing depends on how large the array is.
-/
module

public import proofs.«01_k».proof.Proof.Codes
public import Idealize.ShloMosaic.Lib.Tactic
public import Idealize.ShloMosaic.Lib.ValueLayoutCasts

@[expose] public section

noncomputable section

namespace Cert.Codes

open Idealize.ShloMosaic

/-- The scales from the column of row maxima. -/
def scaleG {R : ℕ} (v12 : FVec Ideal ⟨2, ![R, 1]⟩ .f32) : FVec Ideal ⟨2, ![R, 1]⟩ .f32 :=
  select (cmpf .ogt v12 (broadcast ⟨2, ![R, 1]⟩ (Scalar.ofBits (F := Ideal) .f32 0x00000000#32)))
    (divf v12 (broadcast ⟨2, ![R, 1]⟩ (Scalar.ofBits (F := Ideal) .f32 0x42FE0000#32)))
    (broadcast ⟨2, ![R, 1]⟩ (Scalar.ofBits (F := Ideal) .f32 0x3F800000#32))

theorem scaleG_apply {R : ℕ} (v12 : FVec Ideal ⟨2, ![R, 1]⟩ .f32) (r : Fin R) (x s : Fin 7168 → EReal)
    (hm : v12 (ix2 r 0) = rowMax x s) : scaleG v12 (ix2 r 0) = rowScale x s := by
  unfold scaleG rowScale
  rw [← hm]
  pointwise

/-- The row maxima, one a row. -/
def maxG {R : ℕ} (v9 : FVec Ideal ⟨2, ![R, 7168]⟩ .f32) (h : (⟨2, ![R, 7168]⟩ : Shape).Reduces [1] ⟨1, ![R]⟩) :
    FVec Ideal ⟨1, ![R]⟩ .f32 :=
  multiReduction .maximumf [1] ⟨1, ![R]⟩ (absf v9) 0xFF800000#32 h (.inl rfl) rfl

theorem maxG_apply {R : ℕ} (v9 : FVec Ideal ⟨2, ![R, 7168]⟩ .f32) (h) (r : Fin R) (x s : Fin 7168 → EReal)
    (hx : ∀ k, v9 (ix2 r k) = x k * s k) : maxG v9 h (ix1 r) = rowMax x s := by
  unfold maxG rowMax
  pointwise
  simp only [hx]

/-- The float codes from the products and the scales. -/
def codeG {R : ℕ} (v9 : FVec Ideal ⟨2, ![R, 7168]⟩ .f32) (sc : FVec Ideal ⟨2, ![R, 1]⟩ .f32)
    (h : (⟨2, ![R, 1]⟩ : Shape).Broadcasts ⟨2, ![R, 7168]⟩) : FVec Ideal ⟨2, ![R, 7168]⟩ .f32 :=
  minimumf (broadcast ⟨2, ![R, 7168]⟩ (Scalar.ofBits (F := Ideal) .f32 0x42FE0000#32))
    (maximumf (broadcast ⟨2, ![R, 7168]⟩ (Scalar.ofBits (F := Ideal) .f32 0xC2FE0000#32))
      (roundeven (divf v9 (broadcastTo ⟨2, ![R, 7168]⟩ sc h))))

theorem broadcastTo_col {R : ℕ} (sc : FVec Ideal ⟨2, ![R, 1]⟩ .f32) (h : (⟨2, ![R, 1]⟩ : Shape).Broadcasts ⟨2, ![R, 7168]⟩)
    (r : Fin R) (k : Fin 7168) : broadcastTo ⟨2, ![R, 7168]⟩ sc h (ix2 r k) = sc (ix2 r 0) := by
  unfold broadcastTo
  refine congrArg sc (funext fun a => Fin.ext ?_)
  fin_cases a
  · dsimp only
    split
    · rename_i h1
      have : R = 1 := h1
      have := r.isLt
      show 0 = r.val
      omega
    · rfl
  · rfl

theorem codeG_apply {R : ℕ} (v9 : FVec Ideal ⟨2, ![R, 7168]⟩ .f32) (sc : FVec Ideal ⟨2, ![R, 1]⟩ .f32) (h) (r : Fin R)
    (x s : Fin 7168 → EReal) (k : Fin 7168) (hx : v9 (ix2 r k) = x k * s k) (hs : sc (ix2 r 0) = rowScale x s) :
    codeG v9 sc h (ix2 r k) = rowCode x s k := by
  unfold codeG rowCode
  show min _ (max _ (Ideal.liftRound Ideal.roundHalfEven (Ideal.div (v9 (ix2 r k)) (broadcastTo ⟨2, ![R, 7168]⟩ sc h (ix2 r k))))) = _
  rw [broadcastTo_col, hx, hs]
  rfl

/-- A product of the activations by the smoothing factors at an element. -/
theorem prodG_apply {R : ℕ} (a : FVec Ideal ⟨2, ![R, 7168]⟩ .bf16) (b : FVec Ideal ⟨2, ![1, 7168]⟩ .f32)
   (h : (⟨2, ![1, 7168]⟩ : Shape).Broadcasts ⟨2, ![R, 7168]⟩) (r : Fin R) (k : Fin 7168) :
   mulf (extf .f32 a (by decide)) (broadcastTo ⟨2, ![R, 7168]⟩ b h) (ix2 r k) = a (ix2 r k) * b (ix2 0 k) := by
  pointwise

end Cert.Codes

end
-- ==== Proof.RefBlock.lean ====
/-
  Hand-written, untrusted. WHAT THE REFERENCE WRITES: the three results at an element, in the same words as the kernel's
  blocks (`Codes.lean`). The reference sees the whole arrays at once and contracts in fourteen chunks of 512.
-/
module

public import proofs.«01_k».proof.Proof.Rows
public import proofs.«01_k».proof.Proof.Gen.ReferenceIdeal.Value
public import Idealize.ShloMosaic.Lib.Pipeline.ValueKit

@[expose] public section

set_option maxRecDepth 16384

noncomputable section

namespace Cert.ReferenceIdeal.Block

open Idealize.ShloMosaic Cert.ReferenceIdeal Cert.ReferenceIdeal.Gen Cert.Codes

/-- Row `r` of the activations. -/
abbrev rowOf (x0 : Vec Ideal S4608x7168 .bf16) (r : Fin 4608) : Fin 7168 → EReal := fun k => x0 (ix2 r k)

/-- The smoothing factors. -/
abbrev smoothOf (x1 : Vec Ideal S1x7168 .f32) : Fin 7168 → EReal := fun k => x1 (ix2 0 k)

/-! ## The quantiser -/

section
variable (x0 : Vec Ideal S4608x7168 .bf16) (x1 : Vec Ideal S1x7168 .f32)

theorem pay3_apply (r : Fin 4608) (k : Fin 7168) : k0_pay3 (F := Ideal) x0 x1 (ix2 r k) = rowOf x0 r k * smoothOf x1 k := by
  unfold k0_pay3
  rw [shapeCast_self, shapeCast_self]
  exact prodG_apply x0 x1 _ r k

theorem pay4_eq : k0_pay4 (F := Ideal) x0 x1
    = scaleG (shapeCast S4608x1 (maxG (k0_pay3 (F := Ideal) x0 x1) reduces_S4608x7168_S4608) shapeCasts_S4608_S4608x1) := by
  unfold k0_pay4 scaleG maxG
  rfl

/-- The scale of row `r`. -/
theorem pay4_apply (r : Fin 4608) : k0_pay4 (F := Ideal) x0 x1 (ix2 r 0) = rowScale (rowOf x0 r) (smoothOf x1) := by
  rw [pay4_eq]
  exact scaleG_apply _ r _ _ ((ValueIdx.shapeCast_a_a1_apply _ _ r 0).trans
    (maxG_apply _ _ r _ _ fun k => pay3_apply x0 x1 r k))

theorem pay5_eq : k0_pay5 (F := Ideal) x0 x1
    = fptosi (F := Ideal) (φ := .f32) 8 (codeG (k0_pay3 (F := Ideal) x0 x1) (k0_pay4 (F := Ideal) x0 x1) broadcasts_S4608x1_S4608x7168) := by
  unfold k0_pay5 codeG
  rfl

/-- The int8 code of element `k` of row `r`. -/
theorem pay5_apply (r : Fin 4608) (k : Fin 7168) :
    k0_pay5 (F := Ideal) x0 x1 (ix2 r k) = rowWord (rowOf x0 r) (smoothOf x1) k := by
  rw [pay5_eq]
  exact congrArg (Ideal.fptosi 8) (codeG_apply _ _ _ r _ _ k (pay3_apply x0 x1 r k) (pay4_apply x0 x1 r))

theorem pay6_apply (r : Fin 4608) (k : Fin 7168) :
    k0_pay6 (F := Ideal) x0 x1 (ix2 r k) = (((rowWord (rowOf x0 r) (smoothOf x1) k).toInt : ℝ) : EReal) := by
  rw [← pay5_apply]
  rfl

end

theorem pay7_apply (x2 : Vec Ideal S7168x1536 .i8) (k : Fin 7168) (j : Fin 1536) :
    k0_pay7 (F := Ideal) x2 (ix2 k j) = (((x2 (ix2 k j)).toInt : ℝ) : EReal) := rfl

/-! ## The product -/

/-- A product of 512 columns by 512 rows, converted to int32. -/
def prod (A : FVec Ideal S4608x512 .bf16) (B : FVec Ideal S512x1536 .bf16) : IVec S4608x1536 32 :=
  fptosi (F := Ideal) (φ := .f32) 32 (matmul (φ₁ := .bf16) (φ₂ := .bf16) dot_S4608x512_S512x1536_S4608x1536_1_0_0_1_n_n none A B
    (constant S4608x1536 .f32 0x00000000#32))

theorem prod_apply (A : FVec Ideal S4608x512 .bf16) (B : FVec Ideal S512x1536 .bf16) (r : Fin 4608) (j : Fin 1536) :
    prod A B (ix2 r j) = Ideal.fptosi 32 (∑ k : Fin 512, A (ix2 r k) * B (ix2 k j)) := by
  unfold prod
  pointwise
  rfl

/-- The chunk of the contraction starting at `o`. -/
def chunk (a : FVec Ideal S4608x7168 .bf16) (w : FVec Ideal S7168x1536 .bf16) (o : ℕ) (hA : S4608x7168.Slices ![0, o] S4608x512)
    (hB : S7168x1536.Slices ![o, 0] S512x1536) : IVec S4608x1536 32 :=
  prod (extractStridedSlice S4608x512 ![0, o] a hA) (extractStridedSlice S512x1536 ![o, 0] w hB)

/-- A chunk at an element, the codes and weights known as int8 words. -/
theorem chunk_apply (a b : Fin 7168 → BitVec 8) (A : FVec Ideal S4608x7168 .bf16) (W : FVec Ideal S7168x1536 .bf16) (o : ℕ)
    (ho : o + 512 ≤ 7168) (hA) (hB) (r : Fin 4608) (j : Fin 1536)
    (ha : ∀ k : Fin 7168, A (ix2 r k) = (((a k).toInt : ℝ) : EReal)) (hb : ∀ k : Fin 7168, W (ix2 k j) = (((b k).toInt : ℝ) : EReal)) :
    chunk A W o hA hB (ix2 r j) = chunkWord a b 512 o := by
  rw [chunk, prod_apply]
  refine chunkWord_eq (K := 512) (by omega) a b o ho _ _ (fun k => ?_) (fun k => ?_)
  · exact (extractStridedSlice_apply _ A hA (ix2 r k) (ix2 r ⟨o + k.val, by omega⟩) fun a => by fin_cases a <;> simp).trans (ha _)
  · exact (extractStridedSlice_apply _ W hB (ix2 k j) (ix2 ⟨o + k.val, by omega⟩ j) fun a => by fin_cases a <;> simp).trans (hb _)

/-- The int32 accumulator after the fourteen chunks. -/
def acc (a : FVec Ideal S4608x7168 .bf16) (w : FVec Ideal S7168x1536 .bf16) : IVec S4608x1536 32 :=
  addi (addi (addi (addi (addi (addi (addi (addi (addi (addi (addi (addi (addi (addi (broadcast S4608x1536 0#32) (chunk a w 0 slices_S4608x7168_o0_0_S4608x512 slices_S7168x1536_o0_0_S512x1536)) (chunk a w 512 slices_S4608x7168_o0_512_S4608x512 slices_S7168x1536_o512_0_S512x1536)
    ) (chunk a w 1024 slices_S4608x7168_o0_1024_S4608x512 slices_S7168x1536_o1024_0_S512x1536)) (chunk a w 1536 slices_S4608x7168_o0_1536_S4608x512 slices_S7168x1536_o1536_0_S512x1536)
    ) (chunk a w 2048 slices_S4608x7168_o0_2048_S4608x512 slices_S7168x1536_o2048_0_S512x1536)) (chunk a w 2560 slices_S4608x7168_o0_2560_S4608x512 slices_S7168x1536_o2560_0_S512x1536)
    ) (chunk a w 3072 slices_S4608x7168_o0_3072_S4608x512 slices_S7168x1536_o3072_0_S512x1536)) (chunk a w 3584 slices_S4608x7168_o0_3584_S4608x512 slices_S7168x1536_o3584_0_S512x1536)
    ) (chunk a w 4096 slices_S4608x7168_o0_4096_S4608x512 slices_S7168x1536_o4096_0_S512x1536)) (chunk a w 4608 slices_S4608x7168_o0_4608_S4608x512 slices_S7168x1536_o4608_0_S512x1536)
    ) (chunk a w 5120 slices_S4608x7168_o0_5120_S4608x512 slices_S7168x1536_o5120_0_S512x1536)) (chunk a w 5632 slices_S4608x7168_o0_5632_S4608x512 slices_S7168x1536_o5632_0_S512x1536)
    ) (chunk a w 6144 slices_S4608x7168_o0_6144_S4608x512 slices_S7168x1536_o6144_0_S512x1536)) (chunk a w 6656 slices_S4608x7168_o0_6656_S4608x512 slices_S7168x1536_o6656_0_S512x1536)

/-- The product stored: the accumulator as a float, times the rows' scales, times the columns' scales. -/
def outY (a : FVec Ideal S4608x7168 .bf16) (w : FVec Ideal S7168x1536 .bf16) (sc : FVec Ideal S4608x1 .f32)
    (ws : FVec Ideal S1x1536 .f32) : FVec Ideal S4608x1536 .bf16 :=
  truncf .bf16 (mulf (mulf (sitofp (F := Ideal) .f32 (acc a w)) (broadcastTo S4608x1536 sc broadcasts_S4608x1_S4608x1536))
    (broadcastTo S4608x1536 ws broadcasts_S1x1536_S4608x1536)) bitsLt_bf16_f32

/-- The generated composition is that product. -/
theorem pay1_eq (x0 : Vec Ideal S4608x7168 .bf16) (x1 : Vec Ideal S1x7168 .f32) (x2 : Vec Ideal S7168x1536 .i8)
    (sc : FVec Ideal S4608x1 .f32) (ws : FVec Ideal S1x1536 .f32) :
    k0_pay1 (F := Ideal) ws sc (k0_pay6 x0 x1) (k0_pay7 x2)
      (k0_pay11 (k0_pay6 x0 x1) (k0_pay7 x2) (k0_pay8 x0 x1 x2) (k0_pay9 x0 x1) (k0_pay10 x2) (constant S4608x1536 .f32 0x00000000#32))
      (k0_pay12 (k0_pay6 x0 x1)) (k0_pay13 (k0_pay7 x2)) (constant S4608x1536 .f32 0x00000000#32)
    = outY (k0_pay6 x0 x1) (k0_pay7 x2) sc ws := by
  unfold k0_pay1 k0_pay11 k0_pay8 k0_pay9 k0_pay10 k0_pay12 k0_pay13 outY acc chunk prod
  rfl

/-- The accumulator at an element is the word of the whole contraction. -/
theorem acc_apply (a b : Fin 7168 → BitVec 8) (A : FVec Ideal S4608x7168 .bf16) (W : FVec Ideal S7168x1536 .bf16) (r : Fin 4608)
    (j : Fin 1536) (ha : ∀ k : Fin 7168, A (ix2 r k) = (((a k).toInt : ℝ) : EReal))
    (hb : ∀ k : Fin 7168, W (ix2 k j) = (((b k).toInt : ℝ) : EReal)) : acc A W (ix2 r j) = dotWord a b := by
  have h (o : ℕ) (ho : o + 512 ≤ 7168) (hA) (hB) : chunk A W o hA hB (ix2 r j) = chunkWord a b 512 o :=
    chunk_apply a b A W o ho hA hB r j ha hb
  show 0#32
    + chunk A W 0 slices_S4608x7168_o0_0_S4608x512 slices_S7168x1536_o0_0_S512x1536 (ix2 r j)
    + chunk A W 512 slices_S4608x7168_o0_512_S4608x512 slices_S7168x1536_o512_0_S512x1536 (ix2 r j)
    + chunk A W 1024 slices_S4608x7168_o0_1024_S4608x512 slices_S7168x1536_o1024_0_S512x1536 (ix2 r j)
    + chunk A W 1536 slices_S4608x7168_o0_1536_S4608x512 slices_S7168x1536_o1536_0_S512x1536 (ix2 r j)
    + chunk A W 2048 slices_S4608x7168_o0_2048_S4608x512 slices_S7168x1536_o2048_0_S512x1536 (ix2 r j)
    + chunk A W 2560 slices_S4608x7168_o0_2560_S4608x512 slices_S7168x1536_o2560_0_S512x1536 (ix2 r j)
    + chunk A W 3072 slices_S4608x7168_o0_3072_S4608x512 slices_S7168x1536_o3072_0_S512x1536 (ix2 r j)
    + chunk A W 3584 slices_S4608x7168_o0_3584_S4608x512 slices_S7168x1536_o3584_0_S512x1536 (ix2 r j)
    + chunk A W 4096 slices_S4608x7168_o0_4096_S4608x512 slices_S7168x1536_o4096_0_S512x1536 (ix2 r j)
    + chunk A W 4608 slices_S4608x7168_o0_4608_S4608x512 slices_S7168x1536_o4608_0_S512x1536 (ix2 r j)
    + chunk A W 5120 slices_S4608x7168_o0_5120_S4608x512 slices_S7168x1536_o5120_0_S512x1536 (ix2 r j)
    + chunk A W 5632 slices_S4608x7168_o0_5632_S4608x512 slices_S7168x1536_o5632_0_S512x1536 (ix2 r j)
    + chunk A W 6144 slices_S4608x7168_o0_6144_S4608x512 slices_S7168x1536_o6144_0_S512x1536 (ix2 r j)
    + chunk A W 6656 slices_S4608x7168_o0_6656_S4608x512 slices_S7168x1536_o6656_0_S512x1536 (ix2 r j) = _
  rw [h 0 (by omega), h 512 (by omega), h 1024 (by omega), h 1536 (by omega), h 2048 (by omega), h 2560 (by omega), h 3072 (by omega), h 3584 (by omega), h 4096 (by omega), h 4608 (by omega), h 5120 (by omega), h 5632 (by omega), h 6144 (by omega), h 6656 (by omega), chunkWord_start,
    chunkWord_step a b 512 512 1024 rfl,
    chunkWord_step a b 512 1024 1536 rfl,
    chunkWord_step a b 512 1536 2048 rfl,
    chunkWord_step a b 512 2048 2560 rfl,
    chunkWord_step a b 512 2560 3072 rfl,
    chunkWord_step a b 512 3072 3584 rfl,
    chunkWord_step a b 512 3584 4096 rfl,
    chunkWord_step a b 512 4096 4608 rfl,
    chunkWord_step a b 512 4608 5120 rfl,
    chunkWord_step a b 512 5120 5632 rfl,
    chunkWord_step a b 512 5632 6144 rfl,
    chunkWord_step a b 512 6144 6656 rfl,
    chunkWord_step a b 512 6656 7168 rfl, chunkWord_all]

/-- The product at an element. -/
theorem outY_apply (a b : Fin 7168 → BitVec 8) (A : FVec Ideal S4608x7168 .bf16) (W : FVec Ideal S7168x1536 .bf16)
    (sc : FVec Ideal S4608x1 .f32) (ws : FVec Ideal S1x1536 .f32) (r : Fin 4608)
    (j : Fin 1536) (ha : ∀ k : Fin 7168, A (ix2 r k) = (((a k).toInt : ℝ) : EReal))
    (hb : ∀ k : Fin 7168, W (ix2 k j) = (((b k).toInt : ℝ) : EReal)) :
    outY A W sc ws (ix2 r j) = (((dotWord a b).toInt : ℝ) : EReal) * sc (ix2 r 0) * ws (ix2 0 j) := by
  rw [← acc_apply a b A W r j ha hb]
  unfold outY
  pointwise
  rfl

/-! ## The three results -/

section
variable (x0 : Vec Ideal S4608x7168 .bf16) (x1 : Vec Ideal S1x7168 .f32) (x2 : Vec Ideal S7168x1536 .i8) (x3 : Vec Ideal S1x1536 .f32)

theorem hz : (![0, 0] : Fin 2 → ℕ) = fun _ => 0 := by decide

theorem out4_apply (r : Fin 4608) (j : Fin 1536) : out0_4 (F := Ideal) x0 x1 x2 x3 (ix2 r j)
    = rowOut (rowOf x0 r) (smoothOf x1) (fun k => x2 (ix2 k j)) (x3 (ix2 0 j)) := by
  have h : out0_4 (F := Ideal) x0 x1 x2 x3 = outY (k0_pay6 x0 x1) (k0_pay7 x2) (k0_pay4 x0 x1) (k0_pay2 x3) := by
    unfold_out out0_4
    rw [View.canon_unit_zero hz, View.ld_unit_zero hz, View.ld_unit_zero hz, View.ld_unit_zero hz, View.ld_unit_zero hz]
    exact pay1_eq x0 x1 x2 _ _
  rw [h, outY_apply (rowWord (rowOf x0 r) (smoothOf x1)) (fun k => x2 (ix2 k j)) _ _ _ _ r j (fun k => pay6_apply x0 x1 r k)
    (fun k => pay7_apply x2 k j), pay4_apply, k0_pay2, shapeCast_self]
  rfl

theorem out5_apply (r : Fin 4608) (k : Fin 7168) : out0_5 (F := Ideal) x0 x1 x2 x3 (ix2 r k)
    = rowWord (rowOf x0 r) (smoothOf x1) k := by
  have h : out0_5 (F := Ideal) x0 x1 x2 x3 = k0_pay5 x0 x1 := by
    unfold_out out0_5
    rw [View.canon_unit_zero hz, View.ld_unit_zero hz, View.ld_unit_zero hz]
  rw [h, pay5_apply]

theorem out6_apply (r : Fin 4608) : out0_6 (F := Ideal) x0 x1 x2 x3 (ix2 r 0)
    = rowScale (rowOf x0 r) (smoothOf x1) := by
  have h : out0_6 (F := Ideal) x0 x1 x2 x3 = k0_pay4 x0 x1 := by
    unfold_out out0_6
    rw [View.canon_unit_zero hz, View.ld_unit_zero hz, View.ld_unit_zero hz]
  rw [h, pay4_apply]

end

end Cert.ReferenceIdeal.Block

end
-- ==== Proof.RefArrays.lean ====
/-
  Hand-written, untrusted. THE REFERENCE'S THREE RESULT ARRAYS: its one step reads and writes whole arrays, and leaves
  `Whole.lean`'s functions of the arrays the launch finds.
-/
module

public import proofs.«01_k».proof.Proof.RefBlock
public import proofs.«01_k».proof.Proof.Whole
public import Idealize.ShloMosaic.Lib.Pipeline.ValueKit

@[expose] public section

set_option maxRecDepth 16384

noncomputable section

namespace Cert.ReferenceIdeal.Arrays

open Idealize.ShloMosaic Idealize.ShloMosaic.TcCoe Idealize.SL.Sem
open Cert.ReferenceIdeal Cert.ReferenceIdeal.Gen Cert.ReferenceIdeal.Block Cert.Codes

variable (m : (ℓ : Loc nD τ sig) → Buf (Elt Ideal) ℓ)

/-- Every window is at its one block. -/
theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] := by
  decide +kernel

/-! ## The arrays the launch finds: the arguments, reshaped -/

theorem V0 (c : Dev nD) : V m c main_v0
    = shapeCast (⟨2, ![4608, 7168]⟩ : Shape) (m ((c : Thread nD τ).loc main_arg0)) shapeCasts_S2x2304x7168_S4608x7168 := by
  unfold_abbrev_sides
  after_results
  rfl

theorem V1 (c : Dev nD) : V m c main_v1
    = shapeCast (⟨2, ![1, 7168]⟩ : Shape) (m ((c : Thread nD τ).loc main_arg1)) shapeCasts_S7168_S1x7168 := by
  unfold_abbrev_sides
  after_results
  rfl

theorem V2 (c : Dev nD) : V m c main_v2
    = shapeCast (⟨2, ![1, 1536]⟩ : Shape) (m ((c : Thread nD τ).loc main_arg3)) shapeCasts_S1536_S1x1536 := by
  unfold_abbrev_sides
  after_results
  rfl

/-! ## The blocks read -/

theorem iblk0 (c : Dev nD) (t : Fin cfg0.N) (r : Fin 4608) (k : Fin 7168) :
    iblk m c 0 t (ix2 r k) = V m c main_v0 (ix2 r k) := by
  blk_ext [iblk, (idx t).1]

theorem iblk1 (c : Dev nD) (t : Fin cfg0.N) (k : Fin 7168) : iblk m c 1 t (ix2 0 k) = V m c main_v1 (ix2 0 k) := by
  blk_ext [iblk, (idx t).2.1]

theorem iblk2 (c : Dev nD) (t : Fin cfg0.N) (k : Fin 7168) (j : Fin 1536) : iblk m c 2 t (ix2 k j) = V m c main_arg2 (ix2 k j) := by
  blk_ext [iblk, (idx t).2.2.1]

theorem iblk3 (c : Dev nD) (t : Fin cfg0.N) (j : Fin 1536) : iblk m c 3 t (ix2 0 j) = V m c main_v2 (ix2 0 j) := by
  blk_ext [iblk, (idx t).2.2.2.1]

theorem rows (c : Dev nD) (t : Fin cfg0.N) (r : Fin 4608) :
    rowOf (iblk m c 0 t) r = fun k => V m c main_v0 (ix2 r k) := funext fun k => iblk0 m c t r k

theorem smooth (c : Dev nD) (t : Fin cfg0.N) : smoothOf (iblk m c 1 t) = fun k => V m c main_v1 (ix2 0 k) :=
  funext fun k => iblk1 m c t k

theorem cols (c : Dev nD) (t : Fin cfg0.N) (j : Fin 1536) :
    (fun k : Fin 7168 => iblk m c 2 t (ix2 k j)) = fun k => V m c main_arg2 (ix2 k j) := funext fun k => iblk2 m c t k j

/-! ## The arrays written -/

/-- The first result. -/
theorem arr4 (c : Dev nD) : (dats m 0 c).arrAt 4 cfg0.N
    = wholeY (V m c main_v0) (V m c main_v1) (V m c main_arg2) (V m c main_v2) := by
  refine (dats m 0 c).arrAt_eq_of_covers 4 _ (by decide +kernel) fun t hf y => ?_
  obtain ⟨r, j, rfl⟩ : ∃ (r : Fin 4608) (j : Fin 1536), y = ix2 r j := ⟨y 0, y 1, eq_ix2 y⟩
  have he : ((cfg0.win 4).blk t).view.emb (ix2 r j) = ix2 r j := by blk_ext [(idx t).2.2.2.2.1]
  rw [he]
  blk_simp
  rw [after0_4]
  refine (out4_apply (iblk m c 0 t) (iblk m c 1 t) (iblk m c 2 t) (iblk m c 3 t) r j).trans ?_
  rw [rows, smooth, cols, iblk3]
  rfl

/-- The second result. -/
theorem arr5 (c : Dev nD) : (dats m 0 c).arrAt 5 cfg0.N = wholeI (V m c main_v0) (V m c main_v1) := by
  refine (dats m 0 c).arrAt_eq_of_covers 5 _ (by decide +kernel) fun t hf y => ?_
  obtain ⟨r, j, rfl⟩ : ∃ (r : Fin 4608) (j : Fin 7168), y = ix2 r j := ⟨y 0, y 1, eq_ix2 y⟩
  have he : ((cfg0.win 5).blk t).view.emb (ix2 r j) = ix2 r j := by blk_ext [(idx t).2.2.2.2.2.1]
  rw [he]
  blk_simp
  rw [after0_5]
  refine (out5_apply (iblk m c 0 t) (iblk m c 1 t) (iblk m c 2 t) (iblk m c 3 t) r j).trans ?_
  rw [rows, smooth]
  rfl

/-- The third result. -/
theorem arr6 (c : Dev nD) : (dats m 0 c).arrAt 6 cfg0.N = wholeS (V m c main_v0) (V m c main_v1) := by
  refine (dats m 0 c).arrAt_eq_of_covers 6 _ (by decide +kernel) fun t hf y => ?_
  obtain ⟨r, j, rfl⟩ : ∃ (r : Fin 4608) (j : Fin 1), y = ix2 r j := ⟨y 0, y 1, eq_ix2 y⟩
  obtain rfl : j = 0 := Subsingleton.elim _ _
  have he : ((cfg0.win 6).blk t).view.emb (ix2 r 0) = ix2 r 0 := by blk_ext [(idx t).2.2.2.2.2.2]
  rw [he]
  blk_simp
  rw [after0_6]
  refine (out6_apply (iblk m c 0 t) (iblk m c 1 t) (iblk m c 2 t) (iblk m c 3 t) r).trans ?_
  rw [rows, smooth]
  rfl

end Cert.ReferenceIdeal.Arrays

end
-- ==== Proof.lean ====
module

public import proofs.«01_k».proof.Proof.Gen.KernelIdeal.Value
public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelArrays
public import proofs.«01_k».proof.Proof.RefArrays
public import Idealize.ShloMosaic.Adequacy
public import Idealize.ShloMosaic.Init

@[expose] public section

set_option maxRecDepth 16384

noncomputable section

namespace Cert.Proof

open Idealize.ShloMosaic Idealize.SL.Sem Cert.Kernel

theorem preserves : Cert.preserves_Kernel_KernelIdeal := trivial

/-- From agreeing arguments the two launches find equal arrays (the same reshapes of the arguments), and both leave
    `Whole.lean`'s three functions of them: the codes, the rows' scales and the product. -/
theorem algebraic : Cert.algebraic_KernelIdeal_ReferenceIdeal := by
  intro m g m' g' _ hagree
  refine ⟨fun c => (Cert.KernelIdeal.Gen.dats m 0 c).arrAt 4 Cert.KernelIdeal.cfg0.N,
    fun c => (Cert.KernelIdeal.Gen.dats m 0 c).arrAt 5 Cert.KernelIdeal.cfg0.N,
    fun c => (Cert.KernelIdeal.Gen.dats m 0 c).arrAt 6 Cert.KernelIdeal.cfg0.N,
    Cert.KernelIdeal.Value.run_blocks (F := Ideal) m g, ?_⟩
  refine (θ_run Cert.ReferenceIdeal.defs _ _).mono (fun r h c => ?_) (Cert.ReferenceIdeal.Value.run_blocks (F := Ideal) m' g')
  obtain ⟨h0, h1, h2, hk⟩ := h c
  obtain ⟨a0, a1, a2, a3⟩ := hagree c
  have e0 : Cert.ReferenceIdeal.Gen.V m' c Cert.ReferenceIdeal.main_v0 = Cert.KernelIdeal.Gen.V m c Cert.KernelIdeal.main_v0 := by
    rw [Cert.ReferenceIdeal.Arrays.V0 m' c, a0]
    exact (Cert.KernelIdeal.Arrays.V0 m c).symm
  have e1 : Cert.ReferenceIdeal.Gen.V m' c Cert.ReferenceIdeal.main_v1 = Cert.KernelIdeal.Gen.V m c Cert.KernelIdeal.main_v1 := by
    rw [Cert.ReferenceIdeal.Arrays.V1 m' c, a1]
    exact (Cert.KernelIdeal.Arrays.V1 m c).symm
  have e2 : Cert.ReferenceIdeal.Gen.V m' c Cert.ReferenceIdeal.main_arg2 = Cert.KernelIdeal.Gen.V m c Cert.KernelIdeal.main_arg2 := by
    rw [Cert.ReferenceIdeal.Gen.V_main_arg2 m' c, a2]
    exact (Cert.KernelIdeal.Gen.V_main_arg2 m c).symm
  have e3 : Cert.ReferenceIdeal.Gen.V m' c Cert.ReferenceIdeal.main_v2 = Cert.KernelIdeal.Gen.V m c Cert.KernelIdeal.main_v2 := by
    rw [Cert.ReferenceIdeal.Arrays.V2 m' c, a3]
    exact (Cert.KernelIdeal.Arrays.V2 m c).symm
  refine ⟨h0.trans ?_, h1.trans ?_, h2.trans ?_, hk⟩
  · refine (Cert.ReferenceIdeal.Arrays.arr4 m' c).trans (Eq.trans ?_ (Cert.KernelIdeal.Arrays.arr4 m c).symm)
    rw [e0, e1, e2, e3]
  · refine (Cert.ReferenceIdeal.Arrays.arr5 m' c).trans (Eq.trans ?_ (Cert.KernelIdeal.Arrays.arr5 m c).symm)
    rw [e0, e1]
  · refine (Cert.ReferenceIdeal.Arrays.arr6 m' c).trans (Eq.trans ?_ (Cert.KernelIdeal.Arrays.arr6 m c).symm)
    rw [e0, e1]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, preserves, algebraic⟩

end Cert.Proof

end
